-- ==== Defs.lean ====
def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Qkv4 (m : (ℓ : Loc Cert.Qkv4.nD Cert.Qkv4.τ Cert.Qkv4.sig) → Buf (Elt Bits) ℓ) : Prop :=
  True

def Pre_Qkv4Ideal (m : (ℓ : Loc Cert.Qkv4Ideal.nD Cert.Qkv4Ideal.τ Cert.Qkv4Ideal.sig) → Buf (Elt Ideal) ℓ) : Prop :=
  True

def Pre_Qkv4RefIdeal (m : (ℓ : Loc Cert.Qkv4RefIdeal.nD Cert.Qkv4RefIdeal.τ Cert.Qkv4RefIdeal.sig) → Buf (Elt Ideal) ℓ) : Prop :=
  True

def Pre_Qkv16 (m : (ℓ : Loc Cert.Qkv16.nD Cert.Qkv16.τ Cert.Qkv16.sig) → Buf (Elt Bits) ℓ) : Prop :=
  True

def Pre_Qkv16Ideal (m : (ℓ : Loc Cert.Qkv16Ideal.nD Cert.Qkv16Ideal.τ Cert.Qkv16Ideal.sig) → Buf (Elt Ideal) ℓ) : Prop :=
  True

def Pre_Qkv16RefIdeal (m : (ℓ : Loc Cert.Qkv16RefIdeal.nD Cert.Qkv16RefIdeal.τ Cert.Qkv16RefIdeal.sig) → Buf (Elt Ideal) ℓ) : Prop :=
  True

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3)
      ∧ r.2.mem ((c.tc : Thread Cert.Wo.nD Cert.Wo.τ).loc Cert.Wo.main_arg4) = m ((c.tc : Thread Cert.Wo.nD Cert.Wo.τ).loc Cert.Wo.main_arg4)
      ∧ r.2.mem ((c.tc : Thread Cert.Wo.nD Cert.Wo.τ).loc Cert.Wo.main_arg5) = m ((c.tc : Thread Cert.Wo.nD Cert.Wo.τ).loc Cert.Wo.main_arg5))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
      ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3)
      ∧ r.2.mem ((c.tc : Thread Cert.WoRefIdeal.nD Cert.WoRefIdeal.τ).loc Cert.WoRefIdeal.main_arg4) = m ((c.tc : Thread Cert.WoRefIdeal.nD Cert.WoRefIdeal.τ).loc Cert.WoRefIdeal.main_arg4)
      ∧ r.2.mem ((c.tc : Thread Cert.WoRefIdeal.nD Cert.WoRefIdeal.τ).loc Cert.WoRefIdeal.main_arg5) = m ((c.tc : Thread Cert.WoRefIdeal.nD Cert.WoRefIdeal.τ).loc Cert.WoRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9))
      ∧ r.2.sem = fun _ => 0)

def quiescent_Qkv4 [hQkv4 : Cert.Qkv4.Facts] : Prop :=
  ∀ (m : (ℓ : Loc Cert.Qkv4.nD Cert.Qkv4.τ Cert.Qkv4.sig) → Buf (Elt Bits) ℓ) (g : Dev Cert.Qkv4.nD → PrngReg), Pre_Qkv4 m →
    θ_run (Cert.Qkv4.defs (F := Bits)) (onTc (τ := Cert.Qkv4.τ) (Cert.Qkv4.main (F := Bits))) ⟨m, fun _ => 0, g⟩ (fun r => (∀ c : Dev Cert.Qkv4.nD,
      r.2.mem ((c.tc : Thread Cert.Qkv4.nD Cert.Qkv4.τ).loc Cert.Qkv4.main_arg0) = m ((c.tc : Thread Cert.Qkv4.nD Cert.Qkv4.τ).loc Cert.Qkv4.main_arg0)
      ∧ r.2.mem ((c.tc : Thread Cert.Qkv4.nD Cert.Qkv4.τ).loc Cert.Qkv4.main_arg1) = m ((c.tc : Thread Cert.Qkv4.nD Cert.Qkv4.τ).loc Cert.Qkv4.main_arg1)
      ∧ r.2.mem ((c.tc : Thread Cert.Qkv4.nD Cert.Qkv4.τ).loc Cert.Qkv4.main_arg2) = m ((c.tc : Thread Cert.Qkv4.nD Cert.Qkv4.τ).loc Cert.Qkv4.main_arg2))
      ∧ r.2.sem = fun _ => 0)

def quiescent_Qkv4Ideal [hQkv4Ideal : Cert.Qkv4Ideal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg), Pre_Qkv4Ideal m →
    θ_run (Cert.Qkv4Ideal.defs (F := Ideal)) (onTc (τ := Cert.Qkv4Ideal.τ) (Cert.Qkv4Ideal.main (F := Ideal))) ⟨m, fun _ => 0, g⟩ (fun r => (∀ c : Dev Cert.Qkv4Ideal.nD,
      r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
      ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
      ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2))
      ∧ r.2.sem = fun _ => 0)

def quiescent_Qkv4RefIdeal [hQkv4RefIdeal : Cert.Qkv4RefIdeal.Facts] : Prop :=
  ∀ (m : (ℓ : Loc Cert.Qkv4RefIdeal.nD Cert.Qkv4RefIdeal.τ Cert.Qkv4RefIdeal.sig) → Buf (Elt Ideal) ℓ) (g : Dev Cert.Qkv4RefIdeal.nD → PrngReg), Pre_Qkv4RefIdeal m →
    θ_run (Cert.Qkv4RefIdeal.defs (F := Ideal)) (onTc (τ := Cert.Qkv4RefIdeal.τ) (Cert.Qkv4RefIdeal.main (F := Ideal))) ⟨m, fun _ => 0, g⟩ (fun r => (∀ c : Dev Cert.Qkv4RefIdeal.nD,
      r.2.mem ((c.tc : Thread Cert.Qkv4RefIdeal.nD Cert.Qkv4RefIdeal.τ).loc Cert.Qkv4RefIdeal.main_arg0) = m ((c.tc : Thread Cert.Qkv4RefIdeal.nD Cert.Qkv4RefIdeal.τ).loc Cert.Qkv4RefIdeal.main_arg0)
      ∧ r.2.mem ((c.tc : Thread Cert.Qkv4RefIdeal.nD Cert.Qkv4RefIdeal.τ).loc Cert.Qkv4RefIdeal.main_arg1) = m ((c.tc : Thread Cert.Qkv4RefIdeal.nD Cert.Qkv4RefIdeal.τ).loc Cert.Qkv4RefIdeal.main_arg1)
      ∧ r.2.mem ((c.tc : Thread Cert.Qkv4RefIdeal.nD Cert.Qkv4RefIdeal.τ).loc Cert.Qkv4RefIdeal.main_arg2) = m ((c.tc : Thread Cert.Qkv4RefIdeal.nD Cert.Qkv4RefIdeal.τ).loc Cert.Qkv4RefIdeal.main_arg2))
      ∧ r.2.sem = fun _ => 0)

def quiescent_Qkv16 [hQkv16 : Cert.Qkv16.Facts] : Prop :=
  ∀ (m : (ℓ : Loc Cert.Qkv16.nD Cert.Qkv16.τ Cert.Qkv16.sig) → Buf (Elt Bits) ℓ) (g : Dev Cert.Qkv16.nD → PrngReg), Pre_Qkv16 m →
    θ_run (Cert.Qkv16.defs (F := Bits)) (onTc (τ := Cert.Qkv16.τ) (Cert.Qkv16.main (F := Bits))) ⟨m, fun _ => 0, g⟩ (fun r => (∀ c : Dev Cert.Qkv16.nD,
      r.2.mem ((c.tc : Thread Cert.Qkv16.nD Cert.Qkv16.τ).loc Cert.Qkv16.main_arg0) = m ((c.tc : Thread Cert.Qkv16.nD Cert.Qkv16.τ).loc Cert.Qkv16.main_arg0)
      ∧ r.2.mem ((c.tc : Thread Cert.Qkv16.nD Cert.Qkv16.τ).loc Cert.Qkv16.main_arg1) = m ((c.tc : Thread Cert.Qkv16.nD Cert.Qkv16.τ).loc Cert.Qkv16.main_arg1)
      ∧ r.2.mem ((c.tc : Thread Cert.Qkv16.nD Cert.Qkv16.τ).loc Cert.Qkv16.main_arg2) = m ((c.tc : Thread Cert.Qkv16.nD Cert.Qkv16.τ).loc Cert.Qkv16.main_arg2))
      ∧ r.2.sem = fun _ => 0)

def quiescent_Qkv16Ideal [hQkv16Ideal : Cert.Qkv16Ideal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg), Pre_Qkv16Ideal m →
    θ_run (Cert.Qkv16Ideal.defs (F := Ideal)) (onTc (τ := Cert.Qkv16Ideal.τ) (Cert.Qkv16Ideal.main (F := Ideal))) ⟨m, fun _ => 0, g⟩ (fun r => (∀ c : Dev Cert.Qkv16Ideal.nD,
      r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
      ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
      ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2))
      ∧ r.2.sem = fun _ => 0)

def quiescent_Qkv16RefIdeal [hQkv16RefIdeal : Cert.Qkv16RefIdeal.Facts] : Prop :=
  ∀ (m : (ℓ : Loc Cert.Qkv16RefIdeal.nD Cert.Qkv16RefIdeal.τ Cert.Qkv16RefIdeal.sig) → Buf (Elt Ideal) ℓ) (g : Dev Cert.Qkv16RefIdeal.nD → PrngReg), Pre_Qkv16RefIdeal m →
    θ_run (Cert.Qkv16RefIdeal.defs (F := Ideal)) (onTc (τ := Cert.Qkv16RefIdeal.τ) (Cert.Qkv16RefIdeal.main (F := Ideal))) ⟨m, fun _ => 0, g⟩ (fun r => (∀ c : Dev Cert.Qkv16RefIdeal.nD,
      r.2.mem ((c.tc : Thread Cert.Qkv16RefIdeal.nD Cert.Qkv16RefIdeal.τ).loc Cert.Qkv16RefIdeal.main_arg0) = m ((c.tc : Thread Cert.Qkv16RefIdeal.nD Cert.Qkv16RefIdeal.τ).loc Cert.Qkv16RefIdeal.main_arg0)
      ∧ r.2.mem ((c.tc : Thread Cert.Qkv16RefIdeal.nD Cert.Qkv16RefIdeal.τ).loc Cert.Qkv16RefIdeal.main_arg1) = m ((c.tc : Thread Cert.Qkv16RefIdeal.nD Cert.Qkv16RefIdeal.τ).loc Cert.Qkv16RefIdeal.main_arg1)
      ∧ r.2.mem ((c.tc : Thread Cert.Qkv16RefIdeal.nD Cert.Qkv16RefIdeal.τ).loc Cert.Qkv16RefIdeal.main_arg2) = m ((c.tc : Thread Cert.Qkv16RefIdeal.nD Cert.Qkv16RefIdeal.τ).loc Cert.Qkv16RefIdeal.main_arg2))
      ∧ r.2.sem = fun _ => 0)

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)) →
    ∃ (v0 : (c : Dev Cert.PoolIdeal.nD) → Buf (Elt Ideal) ((c.tc : Thread Cert.PoolIdeal.nD Cert.PoolIdeal.τ).loc Cert.PoolIdeal.main_v21_0)) (v1 : (c : Dev Cert.PoolIdeal.nD) → Buf (Elt Ideal) ((c.tc : Thread Cert.PoolIdeal.nD Cert.PoolIdeal.τ).loc Cert.PoolIdeal.main_v21_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v21_0) = v0 c
          ∧ r.2.mem ((c.tc : Thread Cert.PoolIdeal.nD Cert.PoolIdeal.τ).loc Cert.PoolIdeal.main_v21_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v179) = v0 c
          ∧ r.2.mem ((c.tc : Thread Cert.PoolRefIdeal.nD Cert.PoolRefIdeal.τ).loc Cert.PoolRefIdeal.main_v180) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)
      ∧ m' ((c.tc : Thread Cert.WoRefIdeal.nD Cert.WoRefIdeal.τ).loc Cert.WoRefIdeal.main_arg4) = m ((c.tc : Thread Cert.WoIdeal.nD Cert.WoIdeal.τ).loc Cert.WoIdeal.main_arg4)
      ∧ m' ((c.tc : Thread Cert.WoRefIdeal.nD Cert.WoRefIdeal.τ).loc Cert.WoRefIdeal.main_arg5) = m ((c.tc : Thread Cert.WoIdeal.nD Cert.WoIdeal.τ).loc Cert.WoIdeal.main_arg5)) →
    ∃ (v0 : (c : Dev Cert.WoIdeal.nD) → Buf (Elt Ideal) ((c.tc : Thread Cert.WoIdeal.nD Cert.WoIdeal.τ).loc Cert.WoIdeal.main_v16)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v16) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
          ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
          ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v60) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3)
          ∧ r.2.mem ((c.tc : Thread Cert.WoRefIdeal.nD Cert.WoRefIdeal.τ).loc Cert.WoRefIdeal.main_arg4) = m' ((c.tc : Thread Cert.WoRefIdeal.nD Cert.WoRefIdeal.τ).loc Cert.WoRefIdeal.main_arg4)
          ∧ r.2.mem ((c.tc : Thread Cert.WoRefIdeal.nD Cert.WoRefIdeal.τ).loc Cert.WoRefIdeal.main_arg5) = m' ((c.tc : Thread Cert.WoRefIdeal.nD Cert.WoRefIdeal.τ).loc Cert.WoRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v31) = v0 c
          ∧ r.2.mem ((c.tc : Thread Cert.QkvRefIdeal.nD Cert.QkvRefIdeal.τ).loc Cert.QkvRefIdeal.main_v28) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v23_0)) (v1 : (c : Dev Cert.ConvIdeal.nD) → Buf (Elt Ideal) ((c.tc : Thread Cert.ConvIdeal.nD Cert.ConvIdeal.τ).loc Cert.ConvIdeal.main_v23_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v23_0) = v0 c
          ∧ r.2.mem ((c.tc : Thread Cert.ConvIdeal.nD Cert.ConvIdeal.τ).loc Cert.ConvIdeal.main_v23_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v300) = v0 c
          ∧ r.2.mem ((c.tc : Thread Cert.ConvRefIdeal.nD Cert.ConvRefIdeal.τ).loc Cert.ConvRefIdeal.main_v301) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9))

def preserves_Qkv4_Qkv4Ideal : Prop :=
  True

def algebraic_Qkv4Ideal_Qkv4RefIdeal [hQkv4Ideal : Cert.Qkv4Ideal.Facts] [hQkv4RefIdeal : Cert.Qkv4RefIdeal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg)
    (m' : (ℓ : Loc Cert.Qkv4RefIdeal.nD Cert.Qkv4RefIdeal.τ Cert.Qkv4RefIdeal.sig) → Buf (Elt Ideal) ℓ) (g' : Dev Cert.Qkv4RefIdeal.nD → PrngReg), Pre_Qkv4Ideal m →
    (∀ c : Dev Cert.Qkv4Ideal.nD,
      m' ((c.tc : Thread Cert.Qkv4RefIdeal.nD Cert.Qkv4RefIdeal.τ).loc Cert.Qkv4RefIdeal.main_arg0) = m ((c.tc : Thread Cert.Qkv4Ideal.nD Cert.Qkv4Ideal.τ).loc Cert.Qkv4Ideal.main_arg0)
      ∧ m' ((c.tc : Thread Cert.Qkv4RefIdeal.nD Cert.Qkv4RefIdeal.τ).loc Cert.Qkv4RefIdeal.main_arg1) = m ((c.tc : Thread Cert.Qkv4Ideal.nD Cert.Qkv4Ideal.τ).loc Cert.Qkv4Ideal.main_arg1)
      ∧ m' ((c.tc : Thread Cert.Qkv4RefIdeal.nD Cert.Qkv4RefIdeal.τ).loc Cert.Qkv4RefIdeal.main_arg2) = m ((c.tc : Thread Cert.Qkv4Ideal.nD Cert.Qkv4Ideal.τ).loc Cert.Qkv4Ideal.main_arg2)) →
    ∃ (v0 : (c : Dev Cert.Qkv4Ideal.nD) → Buf (Elt Ideal) ((c.tc : Thread Cert.Qkv4Ideal.nD Cert.Qkv4Ideal.τ).loc Cert.Qkv4Ideal.main_v5_0)) (v1 : (c : Dev Cert.Qkv4Ideal.nD) → Buf (Elt Ideal) ((c.tc : Thread Cert.Qkv4Ideal.nD Cert.Qkv4Ideal.τ).loc Cert.Qkv4Ideal.main_v5_1)),
      θ_run (Cert.Qkv4Ideal.defs (F := Ideal)) (onTc (τ := Cert.Qkv4Ideal.τ) (Cert.Qkv4Ideal.main (F := Ideal))) ⟨m, fun _ => 0, g⟩ (fun r => ∀ c : Dev Cert.Qkv4Ideal.nD,
          r.2.mem ((c.tc : Thread Cert.Qkv4Ideal.nD Cert.Qkv4Ideal.τ).loc Cert.Qkv4Ideal.main_v5_0) = v0 c
          ∧ r.2.mem ((c.tc : Thread Cert.Qkv4Ideal.nD Cert.Qkv4Ideal.τ).loc Cert.Qkv4Ideal.main_v5_1) = v1 c
          ∧ r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
          ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
          ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2))
      ∧ θ_run (Cert.Qkv4RefIdeal.defs (F := Ideal)) (onTc (τ := Cert.Qkv4RefIdeal.τ) (Cert.Qkv4RefIdeal.main (F := Ideal))) ⟨m', fun _ => 0, g'⟩ (fun r => ∀ c : Dev Cert.Qkv4RefIdeal.nD,
          r.2.mem ((c.tc : Thread Cert.Qkv4RefIdeal.nD Cert.Qkv4RefIdeal.τ).loc Cert.Qkv4RefIdeal.main_v32) = v0 c
          ∧ r.2.mem ((c.tc : Thread Cert.Qkv4RefIdeal.nD Cert.Qkv4RefIdeal.τ).loc Cert.Qkv4RefIdeal.main_v28) = v1 c
          ∧ r.2.mem ((c.tc : Thread Cert.Qkv4RefIdeal.nD Cert.Qkv4RefIdeal.τ).loc Cert.Qkv4RefIdeal.main_arg0) = m' ((c.tc : Thread Cert.Qkv4RefIdeal.nD Cert.Qkv4RefIdeal.τ).loc Cert.Qkv4RefIdeal.main_arg0)
          ∧ r.2.mem ((c.tc : Thread Cert.Qkv4RefIdeal.nD Cert.Qkv4RefIdeal.τ).loc Cert.Qkv4RefIdeal.main_arg1) = m' ((c.tc : Thread Cert.Qkv4RefIdeal.nD Cert.Qkv4RefIdeal.τ).loc Cert.Qkv4RefIdeal.main_arg1)
          ∧ r.2.mem ((c.tc : Thread Cert.Qkv4RefIdeal.nD Cert.Qkv4RefIdeal.τ).loc Cert.Qkv4RefIdeal.main_arg2) = m' ((c.tc : Thread Cert.Qkv4RefIdeal.nD Cert.Qkv4RefIdeal.τ).loc Cert.Qkv4RefIdeal.main_arg2))

def preserves_Qkv16_Qkv16Ideal : Prop :=
  True

def algebraic_Qkv16Ideal_Qkv16RefIdeal [hQkv16Ideal : Cert.Qkv16Ideal.Facts] [hQkv16RefIdeal : Cert.Qkv16RefIdeal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg)
    (m' : (ℓ : Loc Cert.Qkv16RefIdeal.nD Cert.Qkv16RefIdeal.τ Cert.Qkv16RefIdeal.sig) → Buf (Elt Ideal) ℓ) (g' : Dev Cert.Qkv16RefIdeal.nD → PrngReg), Pre_Qkv16Ideal m →
    (∀ c : Dev Cert.Qkv16Ideal.nD,
      m' ((c.tc : Thread Cert.Qkv16RefIdeal.nD Cert.Qkv16RefIdeal.τ).loc Cert.Qkv16RefIdeal.main_arg0) = m ((c.tc : Thread Cert.Qkv16Ideal.nD Cert.Qkv16Ideal.τ).loc Cert.Qkv16Ideal.main_arg0)
      ∧ m' ((c.tc : Thread Cert.Qkv16RefIdeal.nD Cert.Qkv16RefIdeal.τ).loc Cert.Qkv16RefIdeal.main_arg1) = m ((c.tc : Thread Cert.Qkv16Ideal.nD Cert.Qkv16Ideal.τ).loc Cert.Qkv16Ideal.main_arg1)
      ∧ m' ((c.tc : Thread Cert.Qkv16RefIdeal.nD Cert.Qkv16RefIdeal.τ).loc Cert.Qkv16RefIdeal.main_arg2) = m ((c.tc : Thread Cert.Qkv16Ideal.nD Cert.Qkv16Ideal.τ).loc Cert.Qkv16Ideal.main_arg2)) →
    ∃ (v0 : (c : Dev Cert.Qkv16Ideal.nD) → Buf (Elt Ideal) ((c.tc : Thread Cert.Qkv16Ideal.nD Cert.Qkv16Ideal.τ).loc Cert.Qkv16Ideal.main_v5_0)) (v1 : (c : Dev Cert.Qkv16Ideal.nD) → Buf (Elt Ideal) ((c.tc : Thread Cert.Qkv16Ideal.nD Cert.Qkv16Ideal.τ).loc Cert.Qkv16Ideal.main_v5_1)),
      θ_run (Cert.Qkv16Ideal.defs (F := Ideal)) (onTc (τ := Cert.Qkv16Ideal.τ) (Cert.Qkv16Ideal.main (F := Ideal))) ⟨m, fun _ => 0, g⟩ (fun r => ∀ c : Dev Cert.Qkv16Ideal.nD,
          r.2.mem ((c.tc : Thread Cert.Qkv16Ideal.nD Cert.Qkv16Ideal.τ).loc Cert.Qkv16Ideal.main_v5_0) = v0 c
          ∧ r.2.mem ((c.tc : Thread Cert.Qkv16Ideal.nD Cert.Qkv16Ideal.τ).loc Cert.Qkv16Ideal.main_v5_1) = v1 c
          ∧ r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
          ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
          ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2))
      ∧ θ_run (Cert.Qkv16RefIdeal.defs (F := Ideal)) (onTc (τ := Cert.Qkv16RefIdeal.τ) (Cert.Qkv16RefIdeal.main (F := Ideal))) ⟨m', fun _ => 0, g'⟩ (fun r => ∀ c : Dev Cert.Qkv16RefIdeal.nD,
          r.2.mem ((c.tc : Thread Cert.Qkv16RefIdeal.nD Cert.Qkv16RefIdeal.τ).loc Cert.Qkv16RefIdeal.main_v32) = v0 c
          ∧ r.2.mem ((c.tc : Thread Cert.Qkv16RefIdeal.nD Cert.Qkv16RefIdeal.τ).loc Cert.Qkv16RefIdeal.main_v28) = v1 c
          ∧ r.2.mem ((c.tc : Thread Cert.Qkv16RefIdeal.nD Cert.Qkv16RefIdeal.τ).loc Cert.Qkv16RefIdeal.main_arg0) = m' ((c.tc : Thread Cert.Qkv16RefIdeal.nD Cert.Qkv16RefIdeal.τ).loc Cert.Qkv16RefIdeal.main_arg0)
          ∧ r.2.mem ((c.tc : Thread Cert.Qkv16RefIdeal.nD Cert.Qkv16RefIdeal.τ).loc Cert.Qkv16RefIdeal.main_arg1) = m' ((c.tc : Thread Cert.Qkv16RefIdeal.nD Cert.Qkv16RefIdeal.τ).loc Cert.Qkv16RefIdeal.main_arg1)
          ∧ r.2.mem ((c.tc : Thread Cert.Qkv16RefIdeal.nD Cert.Qkv16RefIdeal.τ).loc Cert.Qkv16RefIdeal.main_arg2) = m' ((c.tc : Thread Cert.Qkv16RefIdeal.nD Cert.Qkv16RefIdeal.τ).loc Cert.Qkv16RefIdeal.main_arg2))

def Claim : Prop :=
  ∃ (hPool : Cert.Pool.Facts) (hPoolIdeal : Cert.PoolIdeal.Facts) (hPoolRefIdeal : Cert.PoolRefIdeal.Facts) (hFfn : Cert.Ffn.Facts) (hFfnIdeal : Cert.FfnIdeal.Facts) (hFfnRefIdeal : Cert.FfnRefIdeal.Facts) (hWo : Cert.Wo.Facts) (hWoIdeal : Cert.WoIdeal.Facts) (hWoRefIdeal : Cert.WoRefIdeal.Facts) (hQkv : Cert.Qkv.Facts) (hQkvIdeal : Cert.QkvIdeal.Facts) (hQkvRefIdeal : Cert.QkvRefIdeal.Facts) (hConv : Cert.Conv.Facts) (hConvIdeal : Cert.ConvIdeal.Facts) (hConvRefIdeal : Cert.ConvRefIdeal.Facts) (hQkv4 : Cert.Qkv4.Facts) (hQkv4Ideal : Cert.Qkv4Ideal.Facts) (hQkv4RefIdeal : Cert.Qkv4RefIdeal.Facts) (hQkv16 : Cert.Qkv16.Facts) (hQkv16Ideal : Cert.Qkv16Ideal.Facts) (hQkv16RefIdeal : Cert.Qkv16RefIdeal.Facts),
    quiescent_Pool (hPool := hPool)
    ∧ quiescent_PoolIdeal (hPoolIdeal := hPoolIdeal)
    ∧ quiescent_PoolRefIdeal (hPoolRefIdeal := hPoolRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Wo (hWo := hWo)
    ∧ quiescent_WoIdeal (hWoIdeal := hWoIdeal)
    ∧ quiescent_WoRefIdeal (hWoRefIdeal := hWoRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Conv (hConv := hConv)
    ∧ quiescent_ConvIdeal (hConvIdeal := hConvIdeal)
    ∧ quiescent_ConvRefIdeal (hConvRefIdeal := hConvRefIdeal)
    ∧ quiescent_Qkv4 (hQkv4 := hQkv4)
    ∧ quiescent_Qkv4Ideal (hQkv4Ideal := hQkv4Ideal)
    ∧ quiescent_Qkv4RefIdeal (hQkv4RefIdeal := hQkv4RefIdeal)
    ∧ quiescent_Qkv16 (hQkv16 := hQkv16)
    ∧ quiescent_Qkv16Ideal (hQkv16Ideal := hQkv16Ideal)
    ∧ quiescent_Qkv16RefIdeal (hQkv16RefIdeal := hQkv16RefIdeal)
    ∧ preserves_Pool_PoolIdeal
    ∧ algebraic_PoolIdeal_PoolRefIdeal (hPoolIdeal := hPoolIdeal) (hPoolRefIdeal := hPoolRefIdeal)
    ∧ preserves_Ffn_FfnIdeal
    ∧ algebraic_FfnIdeal_FfnRefIdeal (hFfnIdeal := hFfnIdeal) (hFfnRefIdeal := hFfnRefIdeal)
    ∧ preserves_Wo_WoIdeal
    ∧ algebraic_WoIdeal_WoRefIdeal (hWoIdeal := hWoIdeal) (hWoRefIdeal := hWoRefIdeal)
    ∧ preserves_Qkv_QkvIdeal
    ∧ algebraic_QkvIdeal_QkvRefIdeal (hQkvIdeal := hQkvIdeal) (hQkvRefIdeal := hQkvRefIdeal)
    ∧ preserves_Conv_ConvIdeal
    ∧ algebraic_ConvIdeal_ConvRefIdeal (hConvIdeal := hConvIdeal) (hConvRefIdeal := hConvRefIdeal)
    ∧ preserves_Qkv4_Qkv4Ideal
    ∧ algebraic_Qkv4Ideal_Qkv4RefIdeal (hQkv4Ideal := hQkv4Ideal) (hQkv4RefIdeal := hQkv4RefIdeal)
    ∧ preserves_Qkv16_Qkv16Ideal
    ∧ algebraic_Qkv16Ideal_Qkv16RefIdeal (hQkv16Ideal := hQkv16Ideal) (hQkv16RefIdeal := hQkv16RefIdeal)
-- ==== Pool.lean ====
abbrev S4x4096x1024 : Shape := ⟨3, ![4, 4096, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S2x4x256x256 : Shape := ⟨4, ![2, 4, 256, 256]⟩
abbrev S2x1024 : Shape := ⟨2, ![2, 1024]⟩
abbrev S1x1x1024 : Shape := ⟨3, ![1, 1, 1024]⟩
abbrev S1024 : Shape := ⟨1, ![1024]⟩
abbrev S1x1024 : Shape := ⟨2, ![1, 1024]⟩
abbrev S1x4x256x256 : Shape := ⟨4, ![1, 4, 256, 256]⟩
abbrev S4x256x256 : Shape := ⟨3, ![4, 256, 256]⟩
abbrev S_ : Shape := ⟨0, ![]⟩
abbrev S4x16x1024 : Shape := ⟨3, ![4, 16, 1024]⟩
abbrev S1x512x1024 : Shape := ⟨3, ![1, 512, 1024]⟩
abbrev S1x16x1024 : Shape := ⟨3, ![1, 16, 1024]⟩
abbrev S1x1024x5632 : Shape := ⟨3, ![1, 1024, 5632]⟩
abbrev S1x2816x1024 : Shape := ⟨3, ![1, 2816, 1024]⟩
abbrev S528x1024 : Shape := ⟨2, ![528, 1024]⟩
abbrev S512x1024 : Shape := ⟨2, ![512, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 30
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S4x1024x5632, .f32⟩
  | .hbm, ⟨3, _⟩ => ⟨S4x2816x1024, .f32⟩
  | .hbm, ⟨4, _⟩ => ⟨S2x4x256x256, .f32⟩
  | .hbm, ⟨5, _⟩ => ⟨S2x1024, .f32⟩
  | .hbm, ⟨6, _⟩ => ⟨S4x1024x5632, .bf16⟩
  | .hbm, ⟨7, _⟩ => ⟨S4x2816x1024, .bf16⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S1x4x256x256, .f32⟩
  | .hbm, ⟨21, _⟩ => ⟨S4x256x256, .f32⟩
  | .hbm, ⟨22, _⟩ => ⟨S4x256x256, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S4x16x1024, .f32⟩
  | .hbm, ⟨28, _⟩ => ⟨S4x4096x1024, .f32⟩
  | .hbm, ⟨29, _⟩ => ⟨S4x16x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S4x256x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024x5632, .bf16⟩
  | .local _ .vmem, ⟨12, _⟩ => ⟨S1x2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x16x1024, .f32⟩
  | .local _ .vmem, ⟨17, _⟩ => ⟨S1x16x1024, .f32⟩
  | .local _ .vmem, ⟨18, _⟩ => ⟨S528x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== PoolRefIdeal.lean ====
abbrev S4x4096x1024 : Shape := ⟨3, ![4, 4096, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S2x4x256x256 : Shape := ⟨4, ![2, 4, 256, 256]⟩
abbrev S2x1024 : Shape := ⟨2, ![2, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4x15x1024 : Shape := ⟨3, ![4, 15, 1024]⟩
abbrev S4x4111x1024 : Shape := ⟨3, ![4, 4111, 1024]⟩
abbrev S4096 : Shape := ⟨1, ![4096]⟩
abbrev S4x4096x256 : Shape := ⟨3, ![4, 4096, 256]⟩
abbrev S1x4096x1 : Shape := ⟨3, ![1, 4096, 1]⟩
abbrev S4x4096x1x256 : Shape := ⟨4, ![4, 4096, 1, 256]⟩
abbrev S4x4096x4x256 : Shape := ⟨4, ![4, 4096, 4, 256]⟩
abbrev S1x4x256x256 : Shape := ⟨4, ![1, 4, 256, 256]⟩
abbrev S4x256x256 : Shape := ⟨3, ![4, 256, 256]⟩
abbrev S4x256x4x4096 : Shape := ⟨4, ![4, 256, 4, 4096]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S4x16x1024 : Shape := ⟨3, ![4, 16, 1024]⟩

abbrev nBuf : Space → Nat
  | .hbm => 213
  | .vmem => 0
  | .smem => 0
  | _ => 0

abbrev hbmTy0_0 (i : Nat) : BufTy := match i % 128 with
  | 0 => ⟨S4x4096x1024, .f32⟩
  | 1 => ⟨S4x4x1024, .f32⟩
  | 2 => ⟨S4x1024x5632, .f32⟩
  | 3 => ⟨S4x2816x1024, .f32⟩
  | 4 => ⟨S2x4x256x256, .f32⟩
  | 5 => ⟨S2x1024, .f32⟩
  | 6 => ⟨S1x1x1024, .f32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S_, .f32⟩
  | 25 => ⟨S4x15x1024, .f32⟩
  | 26 => ⟨S4x4111x1024, .f32⟩
  | 27 => ⟨S4096, .i32⟩
  | 28 => ⟨S_, .i32⟩
  | 29 => ⟨S4096, .i32⟩
  | 30 => ⟨S4096, .i32⟩
  | 31 => ⟨S4x4096x256, .f32⟩
  | 32 => ⟨S4x4096x256, .f32⟩
  | 33 => ⟨S4x4096x256, .f32⟩
  | 34 => ⟨S_, .i32⟩
  | 35 => ⟨S4096, .i32⟩
  | 36 => ⟨S4096, .i32⟩
  | 37 => ⟨S4096, .f32⟩
  | 38 => ⟨S1x4096x1, .f32⟩
  | 39 => ⟨S4x4096x256, .f32⟩
  | 40 => ⟨S4x4096x256, .f32⟩
  | 41 => ⟨S4x4096x256, .f32⟩
  | 42 => ⟨S4x4096x256, .f32⟩
  | 43 => ⟨S4x4096x256, .f32⟩
  | 44 => ⟨S4x4096x256, .f32⟩
  | 45 => ⟨S4x4096x256, .f32⟩
  | 46 => ⟨S4x4096x256, .f32⟩
  | 47 => ⟨S4x4096x256, .f32⟩
  | 48 => ⟨S4x4096x256, .f32⟩
  | 49 => ⟨S4x4096x256, .f32⟩
  | 50 => ⟨S_, .i32⟩
  | 51 => ⟨S4096, .i32⟩
  | 52 => ⟨S4096, .i32⟩
  | 53 => ⟨S4096, .f32⟩
  | 54 => ⟨S1x4096x1, .f32⟩
  | 55 => ⟨S4x4096x256, .f32⟩
  | 56 => ⟨S4x4096x256, .f32⟩
  | 57 => ⟨S4x4096x256, .f32⟩
  | 58 => ⟨S4x4096x256, .f32⟩
  | 59 => ⟨S4x4096x256, .f32⟩
  | 60 => ⟨S4x4096x256, .f32⟩
  | 61 => ⟨S4x4096x256, .f32⟩
  | 62 => ⟨S4x4096x256, .f32⟩
  | 63 => ⟨S4x4096x256, .f32⟩
  | 64 => ⟨S4x4096x256, .f32⟩
  | 65 => ⟨S4x4096x256, .f32⟩
  | 66 => ⟨S4x4096x256, .f32⟩
  | 67 => ⟨S4x4096x256, .f32⟩
  | 68 => ⟨S4x4096x256, .f32⟩
  | 69 => ⟨S4x4096x256, .f32⟩
  | 70 => ⟨S4x4096x256, .f32⟩
  | 71 => ⟨S4x4096x256, .f32⟩
  | 72 => ⟨S4x4096x256, .f32⟩
  | 73 => ⟨S4x4096x256, .f32⟩
  | 74 => ⟨S_, .i32⟩
  | 75 => ⟨S4096, .i32⟩
  | 76 => ⟨S4096, .i32⟩
  | 77 => ⟨S4096, .f32⟩
  | 78 => ⟨S1x4096x1, .f32⟩
  | 79 => ⟨S4x4096x256, .f32⟩
  | 80 => ⟨S4x4096x256, .f32⟩
  | 81 => ⟨S4x4096x256, .f32⟩
  | 82 => ⟨S4x4096x256, .f32⟩
  | 83 => ⟨S4x4096x256, .f32⟩
  | 84 => ⟨S4x4096x256, .f32⟩
  | 85 => ⟨S4x4096x256, .f32⟩
  | 86 => ⟨S4x4096x256, .f32⟩
  | 87 => ⟨S4x4096x256, .f32⟩
  | 88 => ⟨S4x4096x256, .f32⟩
  | 89 => ⟨S4x4096x256, .f32⟩
  | 90 => ⟨S4x4096x256, .f32⟩
  | 91 => ⟨S4x4096x256, .f32⟩
  | 92 => ⟨S4x4096x256, .f32⟩
  | 93 => ⟨S4x4096x256, .f32⟩
  | 94 => ⟨S4x4096x256, .f32⟩
  | 95 => ⟨S4x4096x256, .f32⟩
  | 96 => ⟨S4x4096x256, .f32⟩
  | 97 => ⟨S4x4096x256, .f32⟩
  | 98 => ⟨S4x4096x256, .f32⟩
  | 99 => ⟨S4x4096x256, .f32⟩
  | 100 => ⟨S4x4096x256, .f32⟩
  | 101 => ⟨S4x4096x256, .f32⟩
  | 102 => ⟨S4x4096x256, .f32⟩
  | 103 => ⟨S4x4096x256, .f32⟩
  | 104 => ⟨S4x4096x256, .f32⟩
  | 105 => ⟨S4x4096x256, .f32⟩
  | 106 => ⟨S4x4096x256, .f32⟩
  | 107 => ⟨S4x4096x256, .f32⟩
  | 108 => ⟨S4x4096x256, .f32⟩
  | 109 => ⟨S4x4096x256, .f32⟩
  | 110 => ⟨S4x4096x256, .f32⟩
  | 111 => ⟨S4x4096x256, .f32⟩
  | 112 => ⟨S4x4096x256, .f32⟩
  | 113 => ⟨S4x4096x256, .f32⟩
  | 114 => ⟨S_, .i32⟩
  | 115 => ⟨S4096, .i32⟩
  | 116 => ⟨S4096, .i32⟩
  | 117 => ⟨S4096, .f32⟩
  | 118 => ⟨S1x4096x1, .f32⟩
  | 119 => ⟨S4x4096x256, .f32⟩
  | 120 => ⟨S4x4096x256, .f32⟩
  | 121 => ⟨S4x4096x256, .f32⟩
  | 122 => ⟨S4x4096x256, .f32⟩
  | 123 => ⟨S4x4096x1x256, .f32⟩
  | 124 => ⟨S4x4096x1x256, .f32⟩
  | 125 => ⟨S4x4096x1x256, .f32⟩
  | 126 => ⟨S4x4096x1x256, .f32⟩
  | 127 => ⟨S4x4096x4x256, .f32⟩
  | _ => ⟨S4x4096x1024, .f32⟩

abbrev hbmTy0_1 (i : Nat) : BufTy := match i % 128 with
  | 0 => ⟨S1x4x256x256, .f32⟩
  | 1 => ⟨S4x256x256, .f32⟩
  | 2 => ⟨S4x256x4x4096, .f32⟩
  | 3 => ⟨S4x4096x4x256, .f32⟩
  | 4 => ⟨S4x4096x1024, .f32⟩
  | 5 => ⟨S1x1024, .f32⟩
  | 6 => ⟨S1024, .f32⟩
  | 7 => ⟨S1x1x1024, .f32⟩
  | 8 => ⟨S4x4096x1024, .f32⟩
  | 9 => ⟨S4x4096x1024, .f32⟩
  | 10 => ⟨S1x1x1024, .f32⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x4096x1024, .f32⟩
  | 29 => ⟨S1x1x1024, .f32⟩
  | 30 => ⟨S1024, .f32⟩
  | 31 => ⟨S4x4096x1024, .f32⟩
  | 32 => ⟨S_, .f32⟩
  | 33 => ⟨S4x4096, .f32⟩
  | 34 => ⟨S4x4096x1, .f32⟩
  | 35 => ⟨S_, .f32⟩
  | 36 => ⟨S4x4096x1, .f32⟩
  | 37 => ⟨S4x4096x1, .f32⟩
  | 38 => ⟨S_, .f32⟩
  | 39 => ⟨S4x4096x1, .f32⟩
  | 40 => ⟨S4x4096x1, .f32⟩
  | 41 => ⟨S4x4096x1, .f32⟩
  | 42 => ⟨S4x4096x1024, .f32⟩
  | 43 => ⟨S4x4096x1024, .f32⟩
  | 44 => ⟨S1x1x1024, .f32⟩
  | 45 => ⟨S4x4096x1024, .f32⟩
  | 46 => ⟨S4x4096x1024, .f32⟩
  | 47 => ⟨S1x1024x5632, .f32⟩
  | 48 => ⟨S1024x5632, .f32⟩
  | 49 => ⟨S1x2816x1024, .f32⟩
  | 50 => ⟨S2816x1024, .f32⟩
  | 51 => ⟨S4x4096x5632, .f32⟩
  | 52 => ⟨S4x4096x2816, .f32⟩
  | 53 => ⟨S4x4096x2816, .f32⟩
  | 54 => ⟨S4x4096x2816, .f32⟩
  | 55 => ⟨S_, .f32⟩
  | 56 => ⟨S4x4096x2816, .f32⟩
  | 57 => ⟨S4x4096x2816, .f32⟩
  | 58 => ⟨S_, .f32⟩
  | 59 => ⟨S4x4096x2816, .f32⟩
  | 60 => ⟨S4x4096x2816, .f32⟩
  | 61 => ⟨S4x4096x2816, .f32⟩
  | 62 => ⟨S4x4096x2816, .f32⟩
  | 63 => ⟨S4x4096x2816, .f32⟩
  | 64 => ⟨S4x4096x1024, .f32⟩
  | 65 => ⟨S1x1x1024, .f32⟩
  | 66 => ⟨S1024, .f32⟩
  | 67 => ⟨S4x4096x1024, .f32⟩
  | 68 => ⟨S_, .f32⟩
  | 69 => ⟨S4x4096, .f32⟩
  | 70 => ⟨S4x4096x1, .f32⟩
  | 71 => ⟨S_, .f32⟩
  | 72 => ⟨S4x4096x1, .f32⟩
  | 73 => ⟨S4x4096x1, .f32⟩
  | 74 => ⟨S_, .f32⟩
  | 75 => ⟨S4x4096x1, .f32⟩
  | 76 => ⟨S4x4096x1, .f32⟩
  | 77 => ⟨S4x4096x1, .f32⟩
  | 78 => ⟨S4x4096x1024, .f32⟩
  | 79 => ⟨S4x4096x1024, .f32⟩
  | 80 => ⟨S1x1x1024, .f32⟩
  | 81 => ⟨S4x4096x1024, .f32⟩
  | 82 => ⟨S4x4096x1024, .f32⟩
  | 83 => ⟨S4x4096x1024, .f32⟩
  | 84 => ⟨S4x16x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_5 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_c_6 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_cst_7 : Ref sig .tc := ⟨.hbm, 141, rfl⟩
abbrev main_v126 : Ref sig .tc := ⟨.hbm, 142, rfl⟩
abbrev main_v127 : Ref sig .tc := ⟨.hbm, 143, rfl⟩
abbrev main_cst_8 : Ref sig .tc := ⟨.hbm, 144, rfl⟩
abbrev main_v128 : Ref sig .tc := ⟨.hbm, 145, rfl⟩
abbrev main_v129 : Ref sig .tc := ⟨.hbm, 146, rfl⟩
abbrev main_cst_9 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_cst_10 : Ref sig .tc := ⟨.hbm, 160, rfl⟩
abbrev main_v142 : Ref sig .tc := ⟨.hbm, 161, rfl⟩
abbrev main_v143 : Ref sig .tc := ⟨.hbm, 162, rfl⟩
abbrev main_cst_11 : Ref sig .tc := ⟨.hbm, 163, rfl⟩
abbrev main_v144 : Ref sig .tc := ⟨.hbm, 164, rfl⟩
abbrev main_v145 : Ref sig .tc := ⟨.hbm, 165, rfl⟩
abbrev main_cst_12 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_call0_v0 : Ref sig .tc := ⟨.hbm, 181, rfl⟩
abbrev main_call0_v1 : Ref sig .tc := ⟨.hbm, 182, rfl⟩
abbrev main_call0_cst : Ref sig .tc := ⟨.hbm, 183, rfl⟩
abbrev main_call0_v2 : Ref sig .tc := ⟨.hbm, 184, rfl⟩
abbrev main_call0_v3 : Ref sig .tc := ⟨.hbm, 185, rfl⟩
abbrev main_call0_cst_0 : Ref sig .tc := ⟨.hbm, 186, rfl⟩
abbrev main_call0_v4 : Ref sig .tc := ⟨.hbm, 187, rfl⟩
abbrev main_call0_v5 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_cst_13 : Ref sig .tc := ⟨.hbm, 196, rfl⟩
abbrev main_v167 : Ref sig .tc := ⟨.hbm, 197, rfl⟩
abbrev main_v168 : Ref sig .tc := ⟨.hbm, 198, rfl⟩
abbrev main_cst_14 : Ref sig .tc := ⟨.hbm, 199, rfl⟩
abbrev main_v169 : Ref sig .tc := ⟨.hbm, 200, rfl⟩
abbrev main_v170 : Ref sig .tc := ⟨.hbm, 201, rfl⟩
abbrev main_cst_15 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩

abbrev nD : Nat := 1
abbrev τ : Topo := Topo.v7x

variable {F : FTy → Type} [FloatOps F]
-- ==== Ffn.lean ====
abbrev S16384x1024 : Shape := ⟨2, ![16384, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 19
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x4x1024, .f32⟩
  | .hbm, ⟨2, _⟩ => ⟨S4x1024x5632, .f32⟩
  | .hbm, ⟨3, _⟩ => ⟨S4x2816x1024, .f32⟩
  | .hbm, ⟨4, _⟩ => ⟨S4x1024x5632, .bf16⟩
  | .hbm, ⟨5, _⟩ => ⟨S4x2816x1024, .bf16⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4x1024, .f32⟩
  | .hbm, ⟨2, _⟩ => ⟨S4x1024x5632, .f32⟩
  | .hbm, ⟨3, _⟩ => ⟨S4x2816x1024, .f32⟩
  | .hbm, ⟨4, _⟩ => ⟨S1x1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S16384x5632, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S1x1x1024, .f32⟩
  | .hbm, ⟨41, _⟩ => ⟨S1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Wo.lean ====
abbrev S4x4096x1024 : Shape := ⟨3, ![4, 4096, 1024]⟩
abbrev S4x8x4096x128 : Shape := ⟨4, ![4, 8, 4096, 128]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x512x1024 : Shape := ⟨3, ![1, 512, 1024]⟩
abbrev S1x8x512x128 : Shape := ⟨4, ![1, 8, 512, 128]⟩
abbrev S1x1024x5632 : Shape := ⟨3, ![1, 1024, 5632]⟩
abbrev S1x2816x1024 : Shape := ⟨3, ![1, 2816, 1024]⟩
abbrev S1x1x512x128 : Shape := ⟨4, ![1, 1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 23
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x8x4096x128, .f32⟩
  | .hbm, ⟨2, _⟩ => ⟨S4x4x1024, .f32⟩
  | .hbm, ⟨3, _⟩ => ⟨S4x1024x5632, .f32⟩
  | .hbm, ⟨4, _⟩ => ⟨S4x2816x1024, .f32⟩
  | .hbm, ⟨5, _⟩ => ⟨S1x1024x1024, .f32⟩
  | .hbm, ⟨6, _⟩ => ⟨S4x1024x5632, .bf16⟩
  | .hbm, ⟨7, _⟩ => ⟨S4x2816x1024, .bf16⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S1024x1024, .f32⟩
  | .hbm, ⟨21, _⟩ => ⟨S1024x1024, .bf16⟩
  | .hbm, ⟨22, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x512x128, .f32⟩
  | .local _ .vmem, ⟨3, _⟩ => ⟨S1x8x512x128, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WoRefIdeal.lean ====
abbrev S4x4096x1024 : Shape := ⟨3, ![4, 4096, 1024]⟩
abbrev S4x8x4096x128 : Shape := ⟨4, ![4, 8, 4096, 128]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S4x4096x8x128 : Shape := ⟨4, ![4, 4096, 8, 128]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x4096x128, .f32⟩
  | .hbm, ⟨2, _⟩ => ⟨S4x4x1024, .f32⟩
  | .hbm, ⟨3, _⟩ => ⟨S4x1024x5632, .f32⟩
  | .hbm, ⟨4, _⟩ => ⟨S4x2816x1024, .f32⟩
  | .hbm, ⟨5, _⟩ => ⟨S1x1024x1024, .f32⟩
  | .hbm, ⟨6, _⟩ => ⟨S4x4096x8x128, .f32⟩
  | .hbm, ⟨7, _⟩ => ⟨S4x4096x1024, .f32⟩
  | .hbm, ⟨8, _⟩ => ⟨S1024x1024, .f32⟩
  | .hbm, ⟨9, _⟩ => ⟨S4x4096x1024, .f32⟩
  | .hbm, ⟨10, _⟩ => ⟨S1x1x1024, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S1x1024x5632, .f32⟩
  | .hbm, ⟨48, _⟩ => ⟨S1024x5632, .f32⟩
  | .hbm, ⟨49, _⟩ => ⟨S1x2816x1024, .f32⟩
  | .hbm, ⟨50, _⟩ => ⟨S2816x1024, .f32⟩
  | .hbm, ⟨51, _⟩ => ⟨S4x4096x5632, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x1024, .f32⟩
  | .hbm, ⟨65, _⟩ => ⟨S1x1x1024, .f32⟩
  | .hbm, ⟨66, _⟩ => ⟨S1024, .f32⟩
  | .hbm, ⟨67, _⟩ => ⟨S4x4096x1024, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Qkv.lean ====
abbrev S4x4096x1024 : Shape := ⟨3, ![4, 4096, 1024]⟩
abbrev S4x4x1024 : Shape := ⟨3, ![4, 4, 1024]⟩
abbrev S1x1024x9216 : Shape := ⟨3, ![1, 1024, 9216]⟩
abbrev S1x1x1024 : Shape := ⟨3, ![1, 1, 1024]⟩
abbrev S1024 : Shape := ⟨1, ![1024]⟩
abbrev S1x1024 : Shape := ⟨2, ![1, 1024]⟩
abbrev S1024x9216 : Shape := ⟨2, ![1024, 9216]⟩
abbrev S4x1x4096x3072 : Shape := ⟨4, ![4, 1, 4096, 3072]⟩
abbrev S4x128x2048 : Shape := ⟨3, ![4, 128, 2048]⟩
abbrev S1x1024x1024 : Shape := ⟨3, ![1, 1024, 1024]⟩
abbrev S1024x3072 : Shape := ⟨2, ![1024, 3072]⟩
abbrev S1x1x1024x3072 : Shape := ⟨4, ![1, 1, 1024, 3072]⟩
abbrev S1x128x2048 : Shape := ⟨3, ![1, 128, 2048]⟩
abbrev S1024x1024 : Shape := ⟨2, ![1024, 1024]⟩
abbrev S1024x1 : Shape := ⟨2, ![1024, 1]⟩
abbrev S1x1x1024x1024 : Shape := ⟨4, ![1, 1, 1024, 1024]⟩
abbrev S128x1024 : Shape := ⟨2, ![128, 1024]⟩
abbrev S1x128x1024 : Shape := ⟨3, ![1, 128, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S1x1024x9216, .f32⟩
  | .hbm, ⟨3, _⟩ => ⟨S1x1x1024, .f32⟩
  | .hbm, ⟨4, _⟩ => ⟨S1024, .f32⟩
  | .hbm, ⟨5, _⟩ => ⟨S1x1024, .f32⟩
  | .hbm, ⟨6, _⟩ => ⟨S1024x9216, .f32⟩
  | .hbm, ⟨7, _⟩ => ⟨S1024x9216, .bf16⟩
  | .hbm, ⟨8, _⟩ => ⟨S4x1x4096x3072, .bf16⟩
  | .hbm, ⟨9, _⟩ => ⟨S4x128x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x1x1024x3072, .bf16⟩
  | .local _ .vmem, ⟨5, _⟩ => ⟨S1x1x1024x3072, .bf16⟩
  | .local _ .vmem, ⟨6, _⟩ => ⟨S1x128x2048, .f32⟩
  | .local _ .vmem, ⟨7, _⟩ => ⟨S1x128x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c3_i32 : BitVec 32 := 3#32
  let v29 : BitVec 1 := Scalar.cmpi .sge arg1 c3_i32
  let v30 : BitVec 32 := Scalar.extui v29
  let c0_i32 : BitVec 32 := 0#32
  let v31 : BitVec 1 := Scalar.cmpi .ne v30 c0_i32
  v31

def k0_cond2 (i : grid0.Coords) : BitVec 1 :=
  let arg1 : BitVec 32 := BitVec.ofNat 32 (i 1).val
  let c3_i32_22 : BitVec 32 := 3#32
  let v39 : BitVec 1 := Scalar.cmpi .sge arg1 c3_i32_22
  let v40 : BitVec 32 := Scalar.extui v39
  let c0_i32_23 : BitVec 32 := 0#32
  let v41 : BitVec 1 := Scalar.cmpi .ne v40 c0_i32_23
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S4x4096x1024 : Shape := ⟨3, ![4, 4096, 1024]⟩
abbrev S4x4x1024 : Shape := ⟨3, ![4, 4, 1024]⟩
abbrev S1x1024x9216 : Shape := ⟨3, ![1, 1024, 9216]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1024x9216 : Shape := ⟨2, ![1024, 9216]⟩
abbrev S4x4096x9216 : Shape := ⟨3, ![4, 4096, 9216]⟩
abbrev S4x4096x3x3x1024 : Shape := ⟨5, ![4, 4096, 3, 3, 1024]⟩
abbrev S4x4096x1x1x1024 : Shape := ⟨5, ![4, 4096, 1, 1, 1024]⟩
abbrev S4x128x1024 : Shape := ⟨3, ![4, 128, 1024]⟩
abbrev S4x128x2048 : Shape := ⟨3, ![4, 128, 2048]⟩
abbrev S4x4096x3072 : Shape := ⟨3, ![4, 4096, 3072]⟩
abbrev S4x1x4096x3072 : Shape := ⟨4, ![4, 1, 4096, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S1x1024x9216, .f32⟩
  | .hbm, ⟨3, _⟩ => ⟨S1x1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x9216, .f32⟩
  | .hbm, ⟨22, _⟩ => ⟨S4x4096x9216, .f32⟩
  | .hbm, ⟨23, _⟩ => ⟨S4x4096x3x3x1024, .f32⟩
  | .hbm, ⟨24, _⟩ => ⟨S4x4096x1x1x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S4x4096x1x1x1024, .f32⟩
  | .hbm, ⟨30, _⟩ => ⟨S4x4096x1024, .f32⟩
  | .hbm, ⟨31, _⟩ => ⟨S4x4096x1x1x1024, .f32⟩
  | .hbm, ⟨32, _⟩ => ⟨S4x4096x1024, .f32⟩
  | .hbm, ⟨33, _⟩ => ⟨S4x128x1024, .f32⟩
  | .hbm, ⟨34, _⟩ => ⟨S4x128x1024, .f32⟩
  | .hbm, ⟨35, _⟩ => ⟨S4x128x2048, .f32⟩
  | .hbm, ⟨36, _⟩ => ⟨S4x4096x3072, .f32⟩
  | .hbm, ⟨37, _⟩ => ⟨S4x4096x3072, .bf16⟩
  | .hbm, ⟨38, _⟩ => ⟨S4x1x4096x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Conv.lean ====
abbrev S4x4096x1024 : Shape := ⟨3, ![4, 4096, 1024]⟩
abbrev S4x4x1024 : Shape := ⟨3, ![4, 4, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S1024x2048 : Shape := ⟨2, ![1024, 2048]⟩
abbrev S2048 : Shape := ⟨1, ![2048]⟩
abbrev S31x1024 : Shape := ⟨2, ![31, 1024]⟩
abbrev S_ : Shape := ⟨0, ![]⟩
abbrev S32x1024 : Shape := ⟨2, ![32, 1024]⟩
abbrev S1024 : Shape := ⟨1, ![1024]⟩
abbrev S1024x1024 : Shape := ⟨2, ![1024, 1024]⟩
abbrev S4x32x1024 : Shape := ⟨3, ![4, 32, 1024]⟩
abbrev S1x1x1024 : Shape := ⟨3, ![1, 1, 1024]⟩
abbrev S1x512x1024 : Shape := ⟨3, ![1, 512, 1024]⟩
abbrev S1x32x1024 : Shape := ⟨3, ![1, 32, 1024]⟩
abbrev S544x1024 : Shape := ⟨2, ![544, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S160x128 : Shape := ⟨2, ![160, 128]⟩
abbrev S1x128 : Shape := ⟨2, ![1, 128]⟩
abbrev S128x128 : Shape := ⟨2, ![128, 128]⟩

abbrev nBuf : Space → Nat
  | .hbm => 38
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S1x1024x2048, .f32⟩
  | .hbm, ⟨3, _⟩ => ⟨S1x2048, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1024x2048, .f32⟩
  | .hbm, ⟨11, _⟩ => ⟨S1024x2048, .bf16⟩
  | .hbm, ⟨12, _⟩ => ⟨S2048, .f32⟩
  | .hbm, ⟨13, _⟩ => ⟨S1x2048, .f32⟩
  | .hbm, ⟨14, _⟩ => ⟨S31x1024, .f32⟩
  | .hbm, ⟨15, _⟩ => ⟨S_, .i32⟩
  | .hbm, ⟨16, _⟩ => ⟨S_, .f32⟩
  | .hbm, ⟨17, _⟩ => ⟨S32x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S4x32x1024, .f32⟩
  | .hbm, ⟨30, _⟩ => ⟨S1x1x1024, .f32⟩
  | .hbm, ⟨31, _⟩ => ⟨S1024, .f32⟩
  | .hbm, ⟨32, _⟩ => ⟨S1x1024, .f32⟩
  | .hbm, ⟨33, _⟩ => ⟨S1x1x1024, .f32⟩
  | .hbm, ⟨34, _⟩ => ⟨S1024, .f32⟩
  | .hbm, ⟨35, _⟩ => ⟨S1x1024, .f32⟩
  | .hbm, ⟨36, _⟩ => ⟨S4x4096x1024, .f32⟩
  | .hbm, ⟨37, _⟩ => ⟨S4x32x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x1024, .f32⟩
  | .local _ .vmem, ⟨5, _⟩ => ⟨S1024x2048, .bf16⟩
  | .local _ .vmem, ⟨6, _⟩ => ⟨S1x2048, .f32⟩
  | .local _ .vmem, ⟨7, _⟩ => ⟨S32x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x32x1024, .f32⟩
  | .local _ .vmem, ⟨17, _⟩ => ⟨S1x32x1024, .f32⟩
  | .local _ .vmem, ⟨18, _⟩ => ⟨S544x1024, .f32⟩
  | .local _ .vmem, ⟨19, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_19 : BitVec 32 := 0#32
  let c4_i32 : BitVec 32 := 4#32
  let v41 : BitVec 32 := Scalar.addi c0_i32_19 c4_i32
  let c1_i32 : BitVec 32 := 1#32
  ⟨c0_i32_19, v41, c1_i32⟩
def k0_mult1 (k0_t1 : Fin k0_t1_loop.trips) : BitVec 32 :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  v95
def k0_off1 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v97 : Index := Scalar.indexCast v96
  let c0_45 : Index := 0#32
  ![v97.toNat, 0]
def k0_off2 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v296 : Index := Scalar.indexCast v96
  let c0_80 : Index := 0#32
  ![v296.toNat, 0]
def k0_off3 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v300 : Index := Scalar.indexCast v96
  let c128 : Index := 128#32
  ![v300.toNat, 128]
def k0_off4 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v499 : Index := Scalar.indexCast v96
  let c128_152 : Index := 128#32
  ![v499.toNat, 128]
def k0_off5 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v503 : Index := Scalar.indexCast v96
  let c256 : Index := 256#32
  ![v503.toNat, 256]
def k0_off6 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v702 : Index := Scalar.indexCast v96
  let c256_224 : Index := 256#32
  ![v702.toNat, 256]
def k0_off7 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v706 : Index := Scalar.indexCast v96
  let c384 : Index := 384#32
  ![v706.toNat, 384]
def k0_off8 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v905 : Index := Scalar.indexCast v96
  let c384_296 : Index := 384#32
  ![v905.toNat, 384]
def k0_off9 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v909 : Index := Scalar.indexCast v96
  let c512_297 : Index := 512#32
  ![v909.toNat, 512]
def k0_off10 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v1108 : Index := Scalar.indexCast v96
  let c512_369 : Index := 512#32
  ![v1108.toNat, 512]
def k0_off11 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v1112 : Index := Scalar.indexCast v96
  let c640 : Index := 640#32
  ![v1112.toNat, 640]
def k0_off12 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v1311 : Index := Scalar.indexCast v96
  let c640_441 : Index := 640#32
  ![v1311.toNat, 640]
def k0_off13 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v1315 : Index := Scalar.indexCast v96
  let c768 : Index := 768#32
  ![v1315.toNat, 768]
def k0_off14 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v1514 : Index := Scalar.indexCast v96
  let c768_513 : Index := 768#32
  ![v1514.toNat, 768]
def k0_off15 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v1518 : Index := Scalar.indexCast v96
  let c896 : Index := 896#32
  ![v1518.toNat, 896]
def k0_off16 (k0_t1 : Fin k0_t1_loop.trips) : Fin 2 → Nat :=
  let c0_i32_19 : BitVec 32 := 0#32
  let c1_i32 : BitVec 32 := 1#32
  let arg18 : BitVec 32 := Scf.iv c0_i32_19 c1_i32 k0_t1
  let c128_i32 : BitVec 32 := 128#32
  let v95 : BitVec 32 := Scalar.muli arg18 c128_i32
  let v96 : BitVec 32 := v95
  let v1717 : Index := Scalar.indexCast v96
  let c896_585 : Index := 896#32
  ![v1717.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ConvRefIdeal.lean ====
abbrev S4x4096x1024 : Shape := ⟨3, ![4, 4096, 1024]⟩
abbrev S4x4x1024 : Shape := ⟨3, ![4, 4, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1024x2048 : Shape := ⟨2, ![1024, 2048]⟩
abbrev S4x4096x2048 : Shape := ⟨3, ![4, 4096, 2048]⟩
abbrev S2048 : Shape := ⟨1, ![2048]⟩
abbrev S1x1x2048 : Shape := ⟨3, ![1, 1, 2048]⟩
abbrev S4x30x1024 : Shape := ⟨3, ![4, 30, 1024]⟩
abbrev S4x4126x1024 : Shape := ⟨3, ![4, 4126, 1024]⟩
abbrev S1024x1024 : Shape := ⟨2, ![1024, 1024]⟩
abbrev S4x32x1024 : Shape := ⟨3, ![4, 32, 1024]⟩

abbrev nBuf : Space → Nat
  | .hbm => 334
  | .vmem => 0
  | .smem => 0
  | _ => 0

abbrev hbmTy0_0 (i : Nat) : BufTy := match i % 128 with
  | 0 => ⟨S4x4096x1024, .f32⟩
  | 1 => ⟨S4x4x1024, .f32⟩
  | 2 => ⟨S1x1024x2048, .f32⟩
  | 3 => ⟨S1x2048, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x1x1024, .f32⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S1024x2048, .f32⟩
  | 29 => ⟨S4x4096x2048, .f32⟩
  | 30 => ⟨S2048, .f32⟩
  | 31 => ⟨S1x1x2048, .f32⟩
  | 32 => ⟨S4x4096x2048, .f32⟩
  | 33 => ⟨S4x4096x2048, .f32⟩
  | 34 => ⟨S4x4096x1024, .f32⟩
  | 35 => ⟨S4x4096x1024, .f32⟩
  | 36 => ⟨S4x4096x1024, .f32⟩
  | 37 => ⟨S4x4096x1024, .f32⟩
  | 38 => ⟨S_, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S4x4096x1024, .f32⟩
  | 45 => ⟨S_, .f32⟩
  | 46 => ⟨S4x30x1024, .f32⟩
  | 47 => ⟨S4x4126x1024, .f32⟩
  | 48 => ⟨S4x4096x1024, .f32⟩
  | 49 => ⟨S1x1x1024, .f32⟩
  | 50 => ⟨S1024, .f32⟩
  | 51 => ⟨S1x1x1024, .f32⟩
  | 52 => ⟨S4x4096x1024, .f32⟩
  | 53 => ⟨S4x4096x1024, .f32⟩
  | 54 => ⟨S4x4096x1024, .f32⟩
  | 55 => ⟨S1x1x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S1x1x1024, .f32⟩
  | 62 => ⟨S1024, .f32⟩
  | 63 => ⟨S1x1x1024, .f32⟩
  | 64 => ⟨S4x4096x1024, .f32⟩
  | 65 => ⟨S4x4096x1024, .f32⟩
  | 66 => ⟨S4x4096x1024, .f32⟩
  | 67 => ⟨S1x1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S1x1x1024, .f32⟩
  | 74 => ⟨S1024, .f32⟩
  | 75 => ⟨S1x1x1024, .f32⟩
  | 76 => ⟨S4x4096x1024, .f32⟩
  | 77 => ⟨S4x4096x1024, .f32⟩
  | 78 => ⟨S4x4096x1024, .f32⟩
  | 79 => ⟨S1x1x1024, .f32⟩
  | 80 => ⟨S1024, .f32⟩
  | 81 => ⟨S1x1x1024, .f32⟩
  | 82 => ⟨S4x4096x1024, .f32⟩
  | 83 => ⟨S4x4096x1024, .f32⟩
  | 84 => ⟨S4x4096x1024, .f32⟩
  | 85 => ⟨S1x1x1024, .f32⟩
  | 86 => ⟨S1024, .f32⟩
  | 87 => ⟨S1x1x1024, .f32⟩
  | 88 => ⟨S4x4096x1024, .f32⟩
  | 89 => ⟨S4x4096x1024, .f32⟩
  | 90 => ⟨S4x4096x1024, .f32⟩
  | 91 => ⟨S1x1x1024, .f32⟩
  | 92 => ⟨S1024, .f32⟩
  | 93 => ⟨S1x1x1024, .f32⟩
  | 94 => ⟨S4x4096x1024, .f32⟩
  | 95 => ⟨S4x4096x1024, .f32⟩
  | 96 => ⟨S4x4096x1024, .f32⟩
  | 97 => ⟨S1x1x1024, .f32⟩
  | 98 => ⟨S1024, .f32⟩
  | 99 => ⟨S1x1x1024, .f32⟩
  | 100 => ⟨S4x4096x1024, .f32⟩
  | 101 => ⟨S4x4096x1024, .f32⟩
  | 102 => ⟨S4x4096x1024, .f32⟩
  | 103 => ⟨S1x1x1024, .f32⟩
  | 104 => ⟨S1024, .f32⟩
  | 105 => ⟨S1x1x1024, .f32⟩
  | 106 => ⟨S4x4096x1024, .f32⟩
  | 107 => ⟨S4x4096x1024, .f32⟩
  | 108 => ⟨S4x4096x1024, .f32⟩
  | 109 => ⟨S1x1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S1x1x1024, .f32⟩
  | 116 => ⟨S1024, .f32⟩
  | 117 => ⟨S1x1x1024, .f32⟩
  | 118 => ⟨S4x4096x1024, .f32⟩
  | 119 => ⟨S4x4096x1024, .f32⟩
  | 120 => ⟨S4x4096x1024, .f32⟩
  | 121 => ⟨S1x1x1024, .f32⟩
  | 122 => ⟨S1024, .f32⟩
  | 123 => ⟨S1x1x1024, .f32⟩
  | 124 => ⟨S4x4096x1024, .f32⟩
  | 125 => ⟨S4x4096x1024, .f32⟩
  | 126 => ⟨S4x4096x1024, .f32⟩
  | 127 => ⟨S1x1x1024, .f32⟩
  | _ => ⟨S4x4096x1024, .f32⟩

abbrev hbmTy0_1 (i : Nat) : BufTy := match i % 128 with
  | 0 => ⟨S1024, .f32⟩
  | 1 => ⟨S1x1x1024, .f32⟩
  | 2 => ⟨S4x4096x1024, .f32⟩
  | 3 => ⟨S4x4096x1024, .f32⟩
  | 4 => ⟨S4x4096x1024, .f32⟩
  | 5 => ⟨S1x1x1024, .f32⟩
  | 6 => ⟨S1024, .f32⟩
  | 7 => ⟨S1x1x1024, .f32⟩
  | 8 => ⟨S4x4096x1024, .f32⟩
  | 9 => ⟨S4x4096x1024, .f32⟩
  | 10 => ⟨S4x4096x1024, .f32⟩
  | 11 => ⟨S1x1x1024, .f32⟩
  | 12 => ⟨S1024, .f32⟩
  | 13 => ⟨S1x1x1024, .f32⟩
  | 14 => ⟨S4x4096x1024, .f32⟩
  | 15 => ⟨S4x4096x1024, .f32⟩
  | 16 => ⟨S4x4096x1024, .f32⟩
  | 17 => ⟨S1x1x1024, .f32⟩
  | 18 => ⟨S1024, .f32⟩
  | 19 => ⟨S1x1x1024, .f32⟩
  | 20 => ⟨S4x4096x1024, .f32⟩
  | 21 => ⟨S4x4096x1024, .f32⟩
  | 22 => ⟨S4x4096x1024, .f32⟩
  | 23 => ⟨S1x1x1024, .f32⟩
  | 24 => ⟨S1024, .f32⟩
  | 25 => ⟨S1x1x1024, .f32⟩
  | 26 => ⟨S4x4096x1024, .f32⟩
  | 27 => ⟨S4x4096x1024, .f32⟩
  | 28 => ⟨S4x4096x1024, .f32⟩
  | 29 => ⟨S1x1x1024, .f32⟩
  | 30 => ⟨S1024, .f32⟩
  | 31 => ⟨S1x1x1024, .f32⟩
  | 32 => ⟨S4x4096x1024, .f32⟩
  | 33 => ⟨S4x4096x1024, .f32⟩
  | 34 => ⟨S4x4096x1024, .f32⟩
  | 35 => ⟨S1x1x1024, .f32⟩
  | 36 => ⟨S1024, .f32⟩
  | 37 => ⟨S1x1x1024, .f32⟩
  | 38 => ⟨S4x4096x1024, .f32⟩
  | 39 => ⟨S4x4096x1024, .f32⟩
  | 40 => ⟨S4x4096x1024, .f32⟩
  | 41 => ⟨S1x1x1024, .f32⟩
  | 42 => ⟨S1024, .f32⟩
  | 43 => ⟨S1x1x1024, .f32⟩
  | 44 => ⟨S4x4096x1024, .f32⟩
  | 45 => ⟨S4x4096x1024, .f32⟩
  | 46 => ⟨S4x4096x1024, .f32⟩
  | 47 => ⟨S1x1x1024, .f32⟩
  | 48 => ⟨S1024, .f32⟩
  | 49 => ⟨S1x1x1024, .f32⟩
  | 50 => ⟨S4x4096x1024, .f32⟩
  | 51 => ⟨S4x4096x1024, .f32⟩
  | 52 => ⟨S4x4096x1024, .f32⟩
  | 53 => ⟨S1x1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S1x1x1024, .f32⟩
  | 60 => ⟨S1024, .f32⟩
  | 61 => ⟨S1x1x1024, .f32⟩
  | 62 => ⟨S4x4096x1024, .f32⟩
  | 63 => ⟨S4x4096x1024, .f32⟩
  | 64 => ⟨S4x4096x1024, .f32⟩
  | 65 => ⟨S1x1x1024, .f32⟩
  | 66 => ⟨S1024, .f32⟩
  | 67 => ⟨S1x1x1024, .f32⟩
  | 68 => ⟨S4x4096x1024, .f32⟩
  | 69 => ⟨S4x4096x1024, .f32⟩
  | 70 => ⟨S4x4096x1024, .f32⟩
  | 71 => ⟨S1x1x1024, .f32⟩
  | 72 => ⟨S1024, .f32⟩
  | 73 => ⟨S1x1x1024, .f32⟩
  | 74 => ⟨S4x4096x1024, .f32⟩
  | 75 => ⟨S4x4096x1024, .f32⟩
  | 76 => ⟨S4x4096x1024, .f32⟩
  | 77 => ⟨S1x1x1024, .f32⟩
  | 78 => ⟨S1024, .f32⟩
  | 79 => ⟨S1x1x1024, .f32⟩
  | 80 => ⟨S4x4096x1024, .f32⟩
  | 81 => ⟨S4x4096x1024, .f32⟩
  | 82 => ⟨S4x4096x1024, .f32⟩
  | 83 => ⟨S1x1x1024, .f32⟩
  | 84 => ⟨S1024, .f32⟩
  | 85 => ⟨S1x1x1024, .f32⟩
  | 86 => ⟨S4x4096x1024, .f32⟩
  | 87 => ⟨S4x4096x1024, .f32⟩
  | 88 => ⟨S4x4096x1024, .f32⟩
  | 89 => ⟨S1x1x1024, .f32⟩
  | 90 => ⟨S1024, .f32⟩
  | 91 => ⟨S1x1x1024, .f32⟩
  | 92 => ⟨S4x4096x1024, .f32⟩
  | 93 => ⟨S4x4096x1024, .f32⟩
  | 94 => ⟨S4x4096x1024, .f32⟩
  | 95 => ⟨S1x1x1024, .f32⟩
  | 96 => ⟨S1024, .f32⟩
  | 97 => ⟨S1x1x1024, .f32⟩
  | 98 => ⟨S4x4096x1024, .f32⟩
  | 99 => ⟨S4x4096x1024, .f32⟩
  | 100 => ⟨S4x4096x1024, .f32⟩
  | 101 => ⟨S1x1x1024, .f32⟩
  | 102 => ⟨S1024, .f32⟩
  | 103 => ⟨S1x1x1024, .f32⟩
  | 104 => ⟨S4x4096x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S4x4096x1024, .f32⟩
  | 110 => ⟨S4x4096x1024, .f32⟩
  | 111 => ⟨S4x4096x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S4x4096x1024, .f32⟩
  | 117 => ⟨S4x4096x1024, .f32⟩
  | 118 => ⟨S4x4096x1024, .f32⟩
  | 119 => ⟨S4x4096x1024, .f32⟩
  | 120 => ⟨S4x4096x1024, .f32⟩
  | 121 => ⟨S4x4096x1024, .f32⟩
  | 122 => ⟨S4x4096x1024, .f32⟩
  | 123 => ⟨S4x4096x1024, .f32⟩
  | 124 => ⟨S4x4096x1024, .f32⟩
  | 125 => ⟨S4x4096x1024, .f32⟩
  | 126 => ⟨S4x4096x1024, .f32⟩
  | 127 => ⟨S4x4096x1024, .f32⟩
  | _ => ⟨S4x4096x1024, .f32⟩

abbrev hbmTy0_2 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S4x4096x1024, .f32⟩
  | 5 => ⟨S4x4096x1024, .f32⟩
  | 6 => ⟨S4x4096x1024, .f32⟩
  | 7 => ⟨S4x4096x1024, .f32⟩
  | 8 => ⟨S1024, .f32⟩
  | 9 => ⟨S1x1x1024, .f32⟩
  | 10 => ⟨S4x4096x1024, .f32⟩
  | 11 => ⟨S4x4096x1024, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S4x4096x1024, .f32⟩
  | 19 => ⟨S4x4096x1024, .f32⟩
  | 20 => ⟨S4x4096x1024, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S4x4096x1024, .f32⟩
  | 28 => ⟨S4x4096x1024, .f32⟩
  | 29 => ⟨S_, .f32⟩
  | 30 => ⟨S4x4096x1, .f32⟩
  | 31 => ⟨S4x4096x1, .f32⟩
  | 32 => ⟨S4x4096x1, .f32⟩
  | 33 => ⟨S4x4096x1024, .f32⟩
  | 34 => ⟨S4x4096x1024, .f32⟩
  | 35 => ⟨S1024, .f32⟩
  | 36 => ⟨S1x1x1024, .f32⟩
  | 37 => ⟨S4x4096x1024, .f32⟩
  | 38 => ⟨S4x4096x1024, .f32⟩
  | 39 => ⟨S1024, .f32⟩
  | 40 => ⟨S1x1x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S4x4096x1024, .f32⟩
  | 52 => ⟨S1024x1024, .f32⟩
  | 53 => ⟨S4x4096x1024, .f32⟩
  | 54 => ⟨S1024, .f32⟩
  | 55 => ⟨S1x1x1024, .f32⟩
  | 56 => ⟨S4x4096x1024, .f32⟩
  | 57 => ⟨S4x4096x1024, .f32⟩
  | 58 => ⟨S1x1x1024, .f32⟩
  | 59 => ⟨S1024, .f32⟩
  | 60 => ⟨S4x4096x1024, .f32⟩
  | 61 => ⟨S_, .f32⟩
  | 62 => ⟨S4x4096, .f32⟩
  | 63 => ⟨S4x4096x1, .f32⟩
  | 64 => ⟨S_, .f32⟩
  | 65 => ⟨S4x4096x1, .f32⟩
  | 66 => ⟨S4x4096x1, .f32⟩
  | 67 => ⟨S_, .f32⟩
  | 68 => ⟨S4x4096x1, .f32⟩
  | 69 => ⟨S4x4096x1, .f32⟩
  | 70 => ⟨S4x4096x1, .f32⟩
  | 71 => ⟨S4x4096x1024, .f32⟩
  | 72 => ⟨S4x4096x1024, .f32⟩
  | 73 => ⟨S1x1x1024, .f32⟩
  | 74 => ⟨S4x4096x1024, .f32⟩
  | 75 => ⟨S4x4096x1024, .f32⟩
  | 76 => ⟨S4x4096x1024, .f32⟩
  | 77 => ⟨S4x32x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_cst_5 : Ref sig .tc := ⟨.hbm, 268, rfl⟩
abbrev main_v252 : Ref sig .tc := ⟨.hbm, 269, rfl⟩
abbrev main_v253 : Ref sig .tc := ⟨.hbm, 270, rfl⟩
abbrev main_cst_6 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_cst_7 : Ref sig .tc := ⟨.hbm, 277, rfl⟩
abbrev main_v259 : Ref sig .tc := ⟨.hbm, 278, rfl⟩
abbrev main_v260 : Ref sig .tc := ⟨.hbm, 279, rfl⟩
abbrev main_cst_8 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_9 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_call0_v0 : Ref sig .tc := ⟨.hbm, 299, rfl⟩
abbrev main_call0_v1 : Ref sig .tc := ⟨.hbm, 300, rfl⟩
abbrev main_call0_cst : Ref sig .tc := ⟨.hbm, 301, rfl⟩
abbrev main_call0_v2 : Ref sig .tc := ⟨.hbm, 302, rfl⟩
abbrev main_call0_v3 : Ref sig .tc := ⟨.hbm, 303, rfl⟩
abbrev main_call0_cst_0 : Ref sig .tc := ⟨.hbm, 304, rfl⟩
abbrev main_call0_v4 : Ref sig .tc := ⟨.hbm, 305, rfl⟩
abbrev main_call0_v5 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_cst_10 : Ref sig .tc := ⟨.hbm, 317, rfl⟩
abbrev main_v288 : Ref sig .tc := ⟨.hbm, 318, rfl⟩
abbrev main_v289 : Ref sig .tc := ⟨.hbm, 319, rfl⟩
abbrev main_cst_11 : Ref sig .tc := ⟨.hbm, 320, rfl⟩
abbrev main_v290 : Ref sig .tc := ⟨.hbm, 321, rfl⟩
abbrev main_v291 : Ref sig .tc := ⟨.hbm, 322, rfl⟩
abbrev main_cst_12 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩

abbrev nD : Nat := 1
abbrev τ : Topo := Topo.v7x

variable {F : FTy → Type} [FloatOps F]
-- ==== Qkv4.lean ====
abbrev S4x4096x1024 : Shape := ⟨3, ![4, 4096, 1024]⟩
abbrev S4x4x1024 : Shape := ⟨3, ![4, 4, 1024]⟩
abbrev S1x1024x9216 : Shape := ⟨3, ![1, 1024, 9216]⟩
abbrev S1x1x1024 : Shape := ⟨3, ![1, 1, 1024]⟩
abbrev S1024 : Shape := ⟨1, ![1024]⟩
abbrev S1x1024 : Shape := ⟨2, ![1, 1024]⟩
abbrev S1024x9216 : Shape := ⟨2, ![1024, 9216]⟩
abbrev S4x4x1024x3072 : Shape := ⟨4, ![4, 4, 1024, 3072]⟩
abbrev S4x512x2048 : Shape := ⟨3, ![4, 512, 2048]⟩
abbrev S1x1024x1024 : Shape := ⟨3, ![1, 1024, 1024]⟩
abbrev S1024x3072 : Shape := ⟨2, ![1024, 3072]⟩
abbrev S1x4x256x3072 : Shape := ⟨4, ![1, 4, 256, 3072]⟩
abbrev S1x512x2048 : Shape := ⟨3, ![1, 512, 2048]⟩
abbrev S8x1024x128 : Shape := ⟨3, ![8, 1024, 128]⟩
abbrev S8x256x128 : Shape := ⟨3, ![8, 256, 128]⟩
abbrev S1024x1024 : Shape := ⟨2, ![1024, 1024]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x1024 : Shape := ⟨2, ![256, 1024]⟩
abbrev S1x1x256x1024 : Shape := ⟨4, ![1, 1, 256, 1024]⟩
abbrev S512x1024 : Shape := ⟨2, ![512, 1024]⟩
abbrev S1x512x1024 : Shape := ⟨3, ![1, 512, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S1x1024x9216, .f32⟩
  | .hbm, ⟨3, _⟩ => ⟨S1x1x1024, .f32⟩
  | .hbm, ⟨4, _⟩ => ⟨S1024, .f32⟩
  | .hbm, ⟨5, _⟩ => ⟨S1x1024, .f32⟩
  | .hbm, ⟨6, _⟩ => ⟨S1024x9216, .f32⟩
  | .hbm, ⟨7, _⟩ => ⟨S1024x9216, .bf16⟩
  | .hbm, ⟨8, _⟩ => ⟨S4x4x1024x3072, .bf16⟩
  | .hbm, ⟨9, _⟩ => ⟨S4x512x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x4x256x3072, .bf16⟩
  | .local _ .vmem, ⟨5, _⟩ => ⟨S1x4x256x3072, .bf16⟩
  | .local _ .vmem, ⟨6, _⟩ => ⟨S1x512x2048, .f32⟩
  | .local _ .vmem, ⟨7, _⟩ => ⟨S1x512x2048, .f32⟩
  | .local _ .vmem, ⟨8, _⟩ => ⟨S8x1024x128, .f32⟩
  | .local _ .vmem, ⟨9, _⟩ => ⟨S8x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c3_i32 : BitVec 32 := 3#32
  let v141 : BitVec 1 := Scalar.cmpi .sge arg1 c3_i32
  let v142 : BitVec 32 := Scalar.extui v141
  let c0_i32 : BitVec 32 := 0#32
  let v143 : BitVec 1 := Scalar.cmpi .ne v142 c0_i32
  v143

def k0_cond2 (i : grid0.Coords) : BitVec 1 :=
  let arg1 : BitVec 32 := BitVec.ofNat 32 (i 1).val
  let c3_i32_279 : BitVec 32 := 3#32
  let v263 : BitVec 1 := Scalar.cmpi .sge arg1 c3_i32_279
  let v264 : BitVec 32 := Scalar.extui v263
  let c0_i32_280 : BitVec 32 := 0#32
  let v265 : BitVec 1 := Scalar.cmpi .ne v264 c0_i32_280
  v265

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Qkv4RefIdeal.lean ====
abbrev S4x4096x1024 : Shape := ⟨3, ![4, 4096, 1024]⟩
abbrev S4x4x1024 : Shape := ⟨3, ![4, 4, 1024]⟩
abbrev S1x1024x9216 : Shape := ⟨3, ![1, 1024, 9216]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1024x9216 : Shape := ⟨2, ![1024, 9216]⟩
abbrev S4x4096x9216 : Shape := ⟨3, ![4, 4096, 9216]⟩
abbrev S4x4096x3x3x1024 : Shape := ⟨5, ![4, 4096, 3, 3, 1024]⟩
abbrev S4x4096x1x1x1024 : Shape := ⟨5, ![4, 4096, 1, 1, 1024]⟩
abbrev S4x512x1024 : Shape := ⟨3, ![4, 512, 1024]⟩
abbrev S4x512x2048 : Shape := ⟨3, ![4, 512, 2048]⟩
abbrev S4x4096x3072 : Shape := ⟨3, ![4, 4096, 3072]⟩
abbrev S4x1024x4x3072 : Shape := ⟨4, ![4, 1024, 4, 3072]⟩
abbrev S4x4x1024x3072 : Shape := ⟨4, ![4, 4, 1024, 3072]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S1x1024x9216, .f32⟩
  | .hbm, ⟨3, _⟩ => ⟨S1x1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x9216, .f32⟩
  | .hbm, ⟨22, _⟩ => ⟨S4x4096x9216, .f32⟩
  | .hbm, ⟨23, _⟩ => ⟨S4x4096x3x3x1024, .f32⟩
  | .hbm, ⟨24, _⟩ => ⟨S4x4096x1x1x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S4x4096x1x1x1024, .f32⟩
  | .hbm, ⟨30, _⟩ => ⟨S4x4096x1024, .f32⟩
  | .hbm, ⟨31, _⟩ => ⟨S4x4096x1x1x1024, .f32⟩
  | .hbm, ⟨32, _⟩ => ⟨S4x4096x1024, .f32⟩
  | .hbm, ⟨33, _⟩ => ⟨S4x512x1024, .f32⟩
  | .hbm, ⟨34, _⟩ => ⟨S4x512x1024, .f32⟩
  | .hbm, ⟨35, _⟩ => ⟨S4x512x2048, .f32⟩
  | .hbm, ⟨36, _⟩ => ⟨S4x4096x3072, .f32⟩
  | .hbm, ⟨37, _⟩ => ⟨S4x4096x3072, .bf16⟩
  | .hbm, ⟨38, _⟩ => ⟨S4x1024x4x3072, .bf16⟩
  | .hbm, ⟨39, _⟩ => ⟨S4x4x1024x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Qkv16.lean ====
abbrev S4x4096x1024 : Shape := ⟨3, ![4, 4096, 1024]⟩
abbrev S4x4x1024 : Shape := ⟨3, ![4, 4, 1024]⟩
abbrev S1x1024x9216 : Shape := ⟨3, ![1, 1024, 9216]⟩
abbrev S1x1x1024 : Shape := ⟨3, ![1, 1, 1024]⟩
abbrev S1024 : Shape := ⟨1, ![1024]⟩
abbrev S1x1024 : Shape := ⟨2, ![1, 1024]⟩
abbrev S1024x9216 : Shape := ⟨2, ![1024, 9216]⟩
abbrev S4x16x256x3072 : Shape := ⟨4, ![4, 16, 256, 3072]⟩
abbrev S4x2048x2048 : Shape := ⟨3, ![4, 2048, 2048]⟩
abbrev S1x1024x1024 : Shape := ⟨3, ![1, 1024, 1024]⟩
abbrev S1024x3072 : Shape := ⟨2, ![1024, 3072]⟩
abbrev S1x16x64x3072 : Shape := ⟨4, ![1, 16, 64, 3072]⟩
abbrev S1x1024x2048 : Shape := ⟨3, ![1, 1024, 2048]⟩
abbrev S8x1024x128 : Shape := ⟨3, ![8, 1024, 128]⟩
abbrev S8x256x128 : Shape := ⟨3, ![8, 256, 128]⟩
abbrev S1024x1024 : Shape := ⟨2, ![1024, 1024]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S64x1024 : Shape := ⟨2, ![64, 1024]⟩
abbrev S1x1x64x1024 : Shape := ⟨4, ![1, 1, 64, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S1x1024x9216, .f32⟩
  | .hbm, ⟨3, _⟩ => ⟨S1x1x1024, .f32⟩
  | .hbm, ⟨4, _⟩ => ⟨S1024, .f32⟩
  | .hbm, ⟨5, _⟩ => ⟨S1x1024, .f32⟩
  | .hbm, ⟨6, _⟩ => ⟨S1024x9216, .f32⟩
  | .hbm, ⟨7, _⟩ => ⟨S1024x9216, .bf16⟩
  | .hbm, ⟨8, _⟩ => ⟨S4x16x256x3072, .bf16⟩
  | .hbm, ⟨9, _⟩ => ⟨S4x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x16x64x3072, .bf16⟩
  | .local _ .vmem, ⟨5, _⟩ => ⟨S1x16x64x3072, .bf16⟩
  | .local _ .vmem, ⟨6, _⟩ => ⟨S1x1024x2048, .f32⟩
  | .local _ .vmem, ⟨7, _⟩ => ⟨S1x1024x2048, .f32⟩
  | .local _ .vmem, ⟨8, _⟩ => ⟨S8x1024x128, .f32⟩
  | .local _ .vmem, ⟨9, _⟩ => ⟨S8x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c2_i32 : BitVec 32 := 2#32
  let v553 : BitVec 1 := Scalar.cmpi .sge arg1 c2_i32
  let v554 : BitVec 32 := Scalar.extui v553
  let c0_i32 : BitVec 32 := 0#32
  let v555 : BitVec 1 := Scalar.cmpi .ne v554 c0_i32
  v555

def k0_cond2 (i : grid0.Coords) : BitVec 1 :=
  let arg1 : BitVec 32 := BitVec.ofNat 32 (i 1).val
  let c2_i32_1327 : BitVec 32 := 2#32
  let v1087 : BitVec 1 := Scalar.cmpi .sge arg1 c2_i32_1327
  let v1088 : BitVec 32 := Scalar.extui v1087
  let c0_i32_1328 : BitVec 32 := 0#32
  let v1089 : BitVec 1 := Scalar.cmpi .ne v1088 c0_i32_1328
  v1089

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x64x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Qkv16RefIdeal.lean ====
abbrev S4x4096x1024 : Shape := ⟨3, ![4, 4096, 1024]⟩
abbrev S4x4x1024 : Shape := ⟨3, ![4, 4, 1024]⟩
abbrev S1x1024x9216 : Shape := ⟨3, ![1, 1024, 9216]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1024x9216 : Shape := ⟨2, ![1024, 9216]⟩
abbrev S4x4096x9216 : Shape := ⟨3, ![4, 4096, 9216]⟩
abbrev S4x4096x3x3x1024 : Shape := ⟨5, ![4, 4096, 3, 3, 1024]⟩
abbrev S4x4096x1x1x1024 : Shape := ⟨5, ![4, 4096, 1, 1, 1024]⟩
abbrev S4x2048x1024 : Shape := ⟨3, ![4, 2048, 1024]⟩
abbrev S4x2048x2048 : Shape := ⟨3, ![4, 2048, 2048]⟩
abbrev S4x4096x3072 : Shape := ⟨3, ![4, 4096, 3072]⟩
abbrev S4x256x16x3072 : Shape := ⟨4, ![4, 256, 16, 3072]⟩
abbrev S4x16x256x3072 : Shape := ⟨4, ![4, 16, 256, 3072]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S1x1024x9216, .f32⟩
  | .hbm, ⟨3, _⟩ => ⟨S1x1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x9216, .f32⟩
  | .hbm, ⟨22, _⟩ => ⟨S4x4096x9216, .f32⟩
  | .hbm, ⟨23, _⟩ => ⟨S4x4096x3x3x1024, .f32⟩
  | .hbm, ⟨24, _⟩ => ⟨S4x4096x1x1x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S4x4096x1x1x1024, .f32⟩
  | .hbm, ⟨30, _⟩ => ⟨S4x4096x1024, .f32⟩
  | .hbm, ⟨31, _⟩ => ⟨S4x4096x1x1x1024, .f32⟩
  | .hbm, ⟨32, _⟩ => ⟨S4x4096x1024, .f32⟩
  | .hbm, ⟨33, _⟩ => ⟨S4x2048x1024, .f32⟩
  | .hbm, ⟨34, _⟩ => ⟨S4x2048x1024, .f32⟩
  | .hbm, ⟨35, _⟩ => ⟨S4x2048x2048, .f32⟩
  | .hbm, ⟨36, _⟩ => ⟨S4x4096x3072, .f32⟩
  | .hbm, ⟨37, _⟩ => ⟨S4x4096x3072, .bf16⟩
  | .hbm, ⟨38, _⟩ => ⟨S4x256x16x3072, .bf16⟩
  | .hbm, ⟨39, _⟩ => ⟨S4x16x256x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proof.Rows.lean ====
module

public import Idealize.ShloMosaic.Lib.Pointwise

@[expose] public section

set_option maxRecDepth 16384

noncomputable section

/-! # The layer's mathematics, one row at a time

Functions of plain families of numbers, used by every comparison below: the root-mean-square norm of a row, the gated
feed-forward network of a row, and the pooling mixer of a row.  No program occurs here. -/

namespace Cert.Rows

open Idealize.ShloMosaic

/-- The root-mean-square norm of the row `v` with gain `g`, at channel `d`. -/
def rms (v g : Fin 1024 → EReal) (d : Fin 1024) : EReal :=
  v d * Ideal.rsqrt (Ideal.div (∑ k, v k * v k) (Ideal.ofBits .f32 0x44800000#32)
    + Ideal.ofBits .f32 0x358637BD#32) * g d

/-- The gate: `a · logistic a`, times `u`. -/
def gate (a u : EReal) : EReal := a * Ideal.logistic a * u

/-- The first product of the feed-forward network, at its column `j`. -/
def ffnIn (y : Fin 1024 → EReal) (wi : Fin 1024 → Fin 5632 → EReal) (j : Fin 5632) : EReal :=
  ∑ k, y k * wi k j

/-- The gated middle row of the feed-forward network. -/
def ffnMid (y : Fin 1024 → EReal) (wi : Fin 1024 → Fin 5632 → EReal) (j : Fin 2816) : EReal :=
  gate (ffnIn y wi ⟨j.val, by omega⟩) (ffnIn y wi ⟨2816 + j.val, by omega⟩)

/-- The feed-forward network of a row that is normed already. -/
def ffnOut (y : Fin 1024 → EReal) (wi : Fin 1024 → Fin 5632 → EReal) (wo : Fin 2816 → Fin 1024 → EReal)
    (d : Fin 1024) : EReal :=
  ∑ j, ffnMid y wi j * wo j d

/-- The feed-forward half of a layer: norm, network, norm, residual. -/
def ffn (x g2 : Fin 1024 → EReal) (wi : Fin 1024 → Fin 5632 → EReal) (wo : Fin 2816 → Fin 1024 → EReal)
    (g3 : Fin 1024 → EReal) (d : Fin 1024) : EReal :=
  x d + rms (ffnOut (rms x g2) wi wo) g3 d

/-- A sum over the 2816 middle channels, cut in the chunks of 1536 and 1280. -/
theorem sum_mid (f : Fin 2816 → EReal) :
    ∑ j, f j = (∑ j : Fin 1536, f ⟨j.val, by omega⟩) + ∑ j : Fin 1280, f ⟨1536 + j.val, by omega⟩ :=
  Fin.sum_univ_two_halves 1536 1280 rfl f

/-- A column of the mixer's input with fifteen zero rows put in front of it, at row `n`. -/
def hz (h : Fin 4096 → EReal) (n : ℕ) : EReal := if c : 15 ≤ n ∧ n - 15 < 4096 then h ⟨n - 15, c.2⟩ else 0

/-- The number of rows in the window of width `w` that ends at row `t`: `min (1 + t) w`. -/
def cnt (t : ℕ) (w : BitVec 32) : EReal :=
  FloatOps.sitofp (F := Ideal) FTy.f32 (IntOp.minsi (IntOp.addi (1#32) (BitVec.ofNat 32 t)) w)

/-- Channel `c` of group `g`. -/
def chan (g : Fin 4) (c : Fin 256) : Fin 1024 := ⟨256 * g.val + c.val, by omega⟩

theorem chan_0 (c : Fin 256) : chan 0 c = ⟨c.val, by omega⟩ := Fin.ext (by simp [chan])
theorem chan_1 (c : Fin 256) : chan 1 c = ⟨256 + c.val, by omega⟩ := Fin.ext (by simp [chan])
theorem chan_2 (c : Fin 256) : chan 2 c = ⟨512 + c.val, by omega⟩ := Fin.ext (by simp [chan])
theorem chan_3 (c : Fin 256) : chan 3 c = ⟨768 + c.val, by omega⟩ := Fin.ext (by simp [chan])

/-- The pooled difference of group `g` at row `t`: the mean of the last `2 ^ (g + 1)` rows less the row itself. -/
def pooled (h : Fin 4096 → Fin 1024 → EReal) (t : Fin 4096) (g : Fin 4) (c : Fin 256) : EReal :=
  Ideal.div (∑ k ∈ Finset.range (2 ^ (g.val + 1)), hz (fun s => h s (chan g c)) (15 - k + t.val))
    (cnt t.val (BitVec.ofNat 32 (2 ^ (g.val + 1)))) - h t (chan g c)

theorem pooled_0 (h : Fin 4096 → Fin 1024 → EReal) (t : Fin 4096) (c : Fin 256) :
    pooled h t 0 c = Ideal.div (∑ k ∈ Finset.range 2, hz (fun s => h s (chan 0 c)) (15 - k + t.val)) (cnt t.val 2#32)
      - h t (chan 0 c) := rfl
theorem pooled_1 (h : Fin 4096 → Fin 1024 → EReal) (t : Fin 4096) (c : Fin 256) :
    pooled h t 1 c = Ideal.div (∑ k ∈ Finset.range 4, hz (fun s => h s (chan 1 c)) (15 - k + t.val)) (cnt t.val 4#32)
      - h t (chan 1 c) := rfl
theorem pooled_2 (h : Fin 4096 → Fin 1024 → EReal) (t : Fin 4096) (c : Fin 256) :
    pooled h t 2 c = Ideal.div (∑ k ∈ Finset.range 8, hz (fun s => h s (chan 2 c)) (15 - k + t.val)) (cnt t.val 8#32)
      - h t (chan 2 c) := rfl
theorem pooled_3 (h : Fin 4096 → Fin 1024 → EReal) (t : Fin 4096) (c : Fin 256) :
    pooled h t 3 c = Ideal.div (∑ k ∈ Finset.range 16, hz (fun s => h s (chan 3 c)) (15 - k + t.val)) (cnt t.val 16#32)
      - h t (chan 3 c) := rfl

/-- The mixer's output row: the pooled differences through their group's matrix, times the scale. -/
def mixRow (h : Fin 4096 → Fin 1024 → EReal) (pw : Fin 4 → Fin 256 → Fin 256 → EReal) (ps : Fin 1024 → EReal)
    (t : Fin 4096) (d : Fin 1024) : EReal :=
  (∑ c, pooled h t ⟨d.val / 256, by omega⟩ c * pw ⟨d.val / 256, by omega⟩ c ⟨d.val % 256, by omega⟩) * ps d

/-- The mixer half of the layer: the row plus the norm of the mixer's output. -/
def mix (x : Fin 1024 → EReal) (h : Fin 4096 → Fin 1024 → EReal) (pw : Fin 4 → Fin 256 → Fin 256 → EReal)
    (ps g1 : Fin 1024 → EReal) (t : Fin 4096) (d : Fin 1024) : EReal :=
  x d + rms (mixRow h pw ps t) g1 d

end Cert.Rows

end
-- ==== Proof.PoolPoint.lean ====
module

public import proofs.«01_k».proof.Proof.Rows
public import proofs.«01_k».proof.Proof.Gen.PoolIdeal.Skeleton

@[expose] public section

set_option maxRecDepth 16384

noncomputable section

/-! # The pooling call's block, one row at a time

What the body of the pooling call computes at one row of its block, over plain vectors in the place of the loaded
blocks.  The row `r` of the block at grid column `j` is the row `512 j + r` of the sequence. -/

namespace Cert.PoolIdeal.Point

open Idealize.ShloMosaic Idealize.ShloMosaic.TcCoe Idealize.SL.Sem
open Cert.PoolIdeal Cert.PoolIdeal.Gen Cert.Rows

/-- The sequence row that row `r` of block `j` is. -/
abbrev T (j : Fin 8) (r : Fin 512) : Fin 4096 := ⟨512 * j.val + r.val, by omega⟩

/-- Turning a column of 528 rows by `s` reads `s` rows back, where there are as many. -/
theorem turn (n s : ℕ) (h : s ≤ n) (h' : n < 528) : (n + 528 - s) % 528 = n - s := by omega

/-- The rows before row `512 j + r`, counted in the column with the zero rows in front. -/
theorem back (j r k : ℕ) (h : k ≤ 15) : 512 * j + (16 + r - k) - 1 = 15 - k + (512 * j + r) := by omega

theorem back_0 (j r : ℕ) : 512 * j + (16 + r) - 1 = 15 + (512 * j + r) := by omega

/-- The position word of row `r` of block `j`. -/
theorem word (j : Fin 8) (r : Fin 512) :
    IntOp.addi (Scalar.addi (1#32) (Scalar.muli (BitVec.ofNat 32 j.val) 512#32)) (BitVec.ofNat 32 r.val)
      = IntOp.addi (1#32) (BitVec.ofNat 32 (512 * j.val + r.val)) := by
  show (1#32 + BitVec.ofNat 32 j.val * 512#32) + BitVec.ofNat 32 r.val = 1#32 + BitVec.ofNat 32 (512 * j.val + r.val)
  apply BitVec.eq_of_toNat_eq
  simp only [BitVec.toNat_add, BitVec.toNat_mul, BitVec.toNat_ofNat]
  omega

theorem pay4_at (b0 : FVec Ideal S1x512x1024 .f32) (b3 : FVec Ideal S1x1024 .f32) (r : Fin 512) (d : Fin 1024) :
    k0_pay4 (F := Ideal) b0 b3 (ix2 r d) = rms (fun k => b0 (ix3 0 r k)) (fun k => b3 (ix2 0 k)) d := by
  pointwise [k0_pay4, k0_pay2, k0_pay3, rms]

/-- The sixteen rows in front of the block: the history in the first block, the norm of the rows before otherwise. -/
theorem pay5_at (i : grid0.Coords) (g : FVec Ideal S1x1024 .f32) (z x : FVec Ideal S1x16x1024 .f32) (r : Fin 16)
    (d : Fin 1024) :
    k0_pay5 (F := Ideal) i g z x (ix2 r d)
      = if (i 1).val = 0 then z (ix3 0 r d) else rms (fun k => x (ix3 0 r k)) (fun k => g (ix2 0 k)) d := by
  pointwise [k0_pay5, k0_pay3, rms]
  have hb : (i 1).val < 8 := (i 1).isLt
  by_cases h : (i 1).val = 0
  · rw [if_pos h, h]
    rfl
  · rw [if_neg h]
    have : Scalar.cmpi CmpIPredicate.eq (BitVec.ofNat 32 (i 1).val) 0#32 = 0#1 := by
      have h2 : ∀ n : Fin 8, n.val ≠ 0 → Scalar.cmpi CmpIPredicate.eq (BitVec.ofNat 32 n.val) 0#32 = 0#1 := by decide
      exact h2 ⟨(i 1).val, hb⟩ h
    rw [this]
    rfl

section Groups

variable (j : Fin 8) (h : Fin 4096 → Fin 1024 → EReal)
  (v : FVec Ideal S512x1024 .f32) (hv : ∀ r d, v (ix2 r d) = h (T j r) d)
  (B : FVec Ideal S528x256 .f32) (P : FVec Ideal S1x256x256 .bf16)

include hv

theorem group0 (hB : ∀ (c : Fin 528) (e : Fin 256), B (ix2 c e) = hz (fun s => h s (chan 0 e)) (512 * j.val + c.val - 1))
    (r : Fin 512) (e : Fin 256) :
    k0_pay9 (F := Ideal) (BitVec.ofNat 32 j.val) v B P (ix2 r e)
      = ∑ c, pooled h (T j r) 0 c * P (ix3 0 c e) := by
  pointwise [k0_pay9, k0_pay8, hB, hv]
  refine Finset.sum_congr rfl fun c _ => congrArg (· * _) ?_
  rw [word, ← chan_0]
  simp (disch := omega) only [turn, Nat.sub_sub, Nat.reduceAdd, back, back_0]
  simp only [pooled_0, cnt, Finset.sum_range_succ, Finset.sum_range_zero, zero_add, Nat.sub_zero, Nat.reduceSub, add_assoc]

theorem group1 (hB : ∀ (c : Fin 528) (e : Fin 256), B (ix2 c e) = hz (fun s => h s (chan 1 e)) (512 * j.val + c.val - 1))
    (r : Fin 512) (e : Fin 256) :
    k0_pay13 (F := Ideal) (k0_pay10 v) (k0_pay11 B) (k0_pay12 (BitVec.ofNat 32 j.val)) P (ix2 r e)
      = ∑ c, pooled h (T j r) 1 c * P (ix3 0 c e) := by
  pointwise [k0_pay13, k0_pay10, k0_pay11, k0_pay12, k0_pay8, hB, hv]
  refine Finset.sum_congr rfl fun c _ => congrArg (· * _) ?_
  rw [word, ← chan_1]
  simp (disch := omega) only [turn, Nat.sub_sub, Nat.reduceAdd, back, back_0]
  simp only [pooled_1, cnt, Finset.sum_range_succ, Finset.sum_range_zero, zero_add, Nat.sub_zero, Nat.reduceSub, add_assoc]

theorem group2 (hB : ∀ (c : Fin 528) (e : Fin 256), B (ix2 c e) = hz (fun s => h s (chan 2 e)) (512 * j.val + c.val - 1))
    (r : Fin 512) (e : Fin 256) :
    k0_pay14 (F := Ideal) v (k0_pay8 (BitVec.ofNat 32 j.val)) B P (ix2 r e)
      = ∑ c, pooled h (T j r) 2 c * P (ix3 0 c e) := by
  pointwise [k0_pay14, k0_pay8, hB, hv]
  refine Finset.sum_congr rfl fun c _ => congrArg (· * _) ?_
  rw [word, ← chan_2]
  simp (disch := omega) only [turn, Nat.sub_sub, Nat.reduceAdd, back, back_0]
  simp only [pooled_2, cnt, Finset.sum_range_succ, Finset.sum_range_zero, zero_add, Nat.sub_zero, Nat.reduceSub, add_assoc]

set_option maxHeartbeats 1600000 in
/-- The last group's pooled difference, as the body spells it. -/
theorem group3 (hB : ∀ (c : Fin 528) (e : Fin 256), B (ix2 c e) = hz (fun s => h s (chan 3 e)) (512 * j.val + c.val - 1))
    (r : Fin 512) (c : Fin 256) :
    subf (F := Ideal) (divf (k0_pay16 B) (broadcastTo S512x256 (sitofp FTy.f32
        (minsi (k0_pay8 (BitVec.ofNat 32 j.val)) k0_pay17)) broadcasts_S512x1_S512x256)) (k0_pay15 v) (ix2 r c)
      = pooled h (T j r) 3 c := by
  pointwise [k0_pay15, k0_pay16, k0_pay17, k0_pay8, hB, hv]
  rw [word, ← chan_3]
  simp (disch := omega) only [turn, Nat.sub_sub, Nat.reduceAdd, back, back_0]
  simp only [pooled_3, cnt, Finset.sum_range_succ, Finset.sum_range_zero, zero_add, Nat.sub_zero, Nat.reduceSub, add_assoc]

end Groups

end Cert.PoolIdeal.Point

end
-- ==== Proof.PoolRow.lean ====
module

public import proofs.«01_k».proof.Proof.PoolPoint

@[expose] public section

set_option maxRecDepth 16384

noncomputable section

/-! # The pooling call's block, from the four groups to the result

The four groups side by side, the mixer's norm, and the feed-forward network in its two chunks, at one row. -/

namespace Cert.PoolIdeal.Point

open Idealize.ShloMosaic Idealize.ShloMosaic.TcCoe Idealize.SL.Sem
open Cert.PoolIdeal Cert.PoolIdeal.Gen Cert.Rows

section Groups

variable (j : Fin 8) (h : Fin 4096 → Fin 1024 → EReal)
  (v : FVec Ideal S512x1024 .f32) (hv : ∀ r d, v (ix2 r d) = h (T j r) d)
  (B : FVec Ideal S528x256 .f32) (P : FVec Ideal S1x256x256 .bf16)

include hv

/-- The four groups' products side by side, at channel `d`. -/
theorem cat_at (pw : Fin 4 → Fin 256 → Fin 256 → EReal) (v63 v80 v99 : FVec Ideal S512x256 .f32)
    (h63 : ∀ r e, v63 (ix2 r e) = ∑ c, pooled h (T j r) 0 c * pw 0 c e)
    (h80 : ∀ r e, v80 (ix2 r e) = ∑ c, pooled h (T j r) 1 c * pw 1 c e)
    (h99 : ∀ r e, v99 (ix2 r e) = ∑ c, pooled h (T j r) 2 c * pw 2 c e)
    (v120 : FVec Ideal S512x256 .f32)
    (h120 : ∀ r e, v120 (ix2 r e) = ∑ c, pooled h (T j r) 3 c * pw 3 c e)
    (r : Fin 512) (d : Fin 1024) :
    (concatenate S512x1024 1 [⟨S512x256, v63⟩, ⟨S512x256, v80⟩, ⟨S512x256, v99⟩, ⟨S512x256, v120⟩]
        concatenates_S512x256_S512x256_S512x256_S512x256_S512x1024_d1 : FVec Ideal S512x1024 .f32) (ix2 r d)
      = ∑ c, pooled h (T j r) ⟨d.val / 256, by omega⟩ c * pw ⟨d.val / 256, by omega⟩ c ⟨d.val % 256, by omega⟩ := by
  have step : ∀ (g : Fin 4) (e : Fin 256), 256 * g.val + e.val = d.val →
      (∑ c, pooled h (T j r) g c * pw g c e)
        = ∑ c, pooled h (T j r) ⟨d.val / 256, by omega⟩ c * pw ⟨d.val / 256, by omega⟩ c ⟨d.val % 256, by omega⟩ := by
    intro g e hd
    rw [show (⟨d.val / 256, by omega⟩ : Fin 4) = g from Fin.ext (by show d.val / 256 = g.val; omega),
      show (⟨d.val % 256, by omega⟩ : Fin 256) = e from Fin.ext (by show d.val % 256 = e.val; omega)]
  pointwise [h63, h80, h99, h120]
  by_cases h0 : (d : ℕ) < 256
  · rw [dif_pos h0]; exact step 0 _ (by simp)
  rw [dif_neg h0]
  by_cases h1 : (d : ℕ) - 256 < 256
  · rw [dif_pos h1]; exact step 1 _ (by simp; omega)
  rw [dif_neg h1]
  by_cases h2 : (d : ℕ) - 256 - 256 < 256
  · rw [dif_pos h2]; exact step 2 _ (by simp; omega)
  rw [dif_neg h2]
  exact step 3 _ (by simp; omega)

/-- The mixer half of the layer, at one row of the block. -/
theorem pay18_at (pw : Fin 4 → Fin 256 → Fin 256 → EReal) (ps g1 : Fin 1024 → EReal) (X : Fin 4096 → Fin 1024 → EReal)
    (v1 : FVec Ideal S512x1024 .f32) (h1 : ∀ r d, v1 (ix2 r d) = X (T j r) d)
    (v63 v80 v99 : FVec Ideal S512x256 .f32)
    (h63 : ∀ r e, v63 (ix2 r e) = ∑ c, pooled h (T j r) 0 c * pw 0 c e)
    (h80 : ∀ r e, v80 (ix2 r e) = ∑ c, pooled h (T j r) 1 c * pw 1 c e)
    (h99 : ∀ r e, v99 (ix2 r e) = ∑ c, pooled h (T j r) 2 c * pw 2 c e)
    (hB : ∀ (c : Fin 528) (e : Fin 256), B (ix2 c e) = hz (fun s => h s (chan 3 e)) (512 * j.val + c.val - 1))
    (hP : ∀ c e, P (ix3 0 c e) = pw 3 c e)
    (v122 v126 : FVec Ideal S1x1024 .f32) (hps : ∀ k, v122 (ix2 0 k) = ps k) (hg1 : ∀ k, v126 (ix2 0 k) = g1 k)
    (r : Fin 512) (d : Fin 1024) :
    k0_pay18 (F := Ideal) v1 (k0_pay8 (BitVec.ofNat 32 j.val)) v63 v80 v99 (k0_pay15 v) (k0_pay16 B) k0_pay17 P v122 v126 (ix2 r d)
      = mix (X (T j r)) h pw ps g1 (T j r) d := by
  simp only [k0_pay18]
  generalize hM : matmul (F := Ideal) dot_S512x256_S256x256_S512x256_1_0_0_1_n_n none _ _ _ = M
  have h120 : ∀ r e, M (ix2 r e) = ∑ c, pooled h (T j r) 3 c * pw 3 c e := by
    intro r e
    rw [← hM]
    generalize hD : subf (F := Ideal) (φ := .f32) (s := S512x256) _ _ = D
    have hDa : ∀ r c, D (ix2 r c) = pooled h (T j r) 3 c := fun r c => by rw [← hD]; exact group3 j h v hv B hB r c
    pointwise [hDa, hP]
  generalize hV : concatenate S512x1024 1 _ _ = V
  have hVa : ∀ r d, V (ix2 r d)
      = ∑ c, pooled h (T j r) ⟨d.val / 256, by omega⟩ c * pw ⟨d.val / 256, by omega⟩ c ⟨d.val % 256, by omega⟩ :=
    fun r d => by rw [← hV]; exact cat_at j h v hv pw v63 v80 v99 h63 h80 h99 M h120 r d
  pointwise [hVa, hps, hg1, h1, mix, mixRow, rms]

end Groups

/-- The feed-forward network's first norm. -/
theorem pay19_at (v1 : FVec Ideal S512x1024 .f32) (v48 : IVec S512x1 32) (v63 v80 v99 v100 v110 : FVec Ideal S512x256 .f32)
    (v111 : IVec S512x1 32) (v118 : FVec Ideal S1x256x256 .bf16) (v122 v126 v141 : FVec Ideal S1x1024 .f32)
    (x g2 : Fin 1024 → EReal) (r : Fin 512)
    (hx : ∀ d, k0_pay18 (F := Ideal) v1 v48 v63 v80 v99 v100 v110 v111 v118 v122 v126 (ix2 r d) = x d)
    (hg : ∀ k, v141 (ix2 0 k) = g2 k) (d : Fin 1024) :
    k0_pay19 (F := Ideal) v1 v48 v63 v80 v99 v100 v110 v111 v118 v122 v126 v141 (ix2 r d) = rms x g2 d := by
  pointwise [k0_pay19, hx, hg, rms]

/-- The feed-forward network, its middle channels in two chunks. -/
theorem pay20_at (y : FVec Ideal S512x1024 .bf16) (w1 w2 : FVec Ideal S1x1024x1536 .bf16) (w3 : FVec Ideal S1x1536x1024 .bf16)
    (w4 w5 : FVec Ideal S1x1024x1280 .bf16) (w6 : FVec Ideal S1x1280x1024 .bf16)
    (x : Fin 1024 → EReal) (wi : Fin 1024 → Fin 5632 → EReal) (wo : Fin 2816 → Fin 1024 → EReal) (r : Fin 512)
    (hy : ∀ k, y (ix2 r k) = x k)
    (h1 : ∀ k (n : Fin 1536), w1 (ix3 0 k n) = wi k ⟨n.val, by omega⟩)
    (h2 : ∀ k (n : Fin 1536), w2 (ix3 0 k n) = wi k ⟨2816 + n.val, by omega⟩)
    (h3 : ∀ (n : Fin 1536) e, w3 (ix3 0 n e) = wo ⟨n.val, by omega⟩ e)
    (h4 : ∀ k (n : Fin 1280), w4 (ix3 0 k n) = wi k ⟨1536 + n.val, by omega⟩)
    (h5 : ∀ k (n : Fin 1280), w5 (ix3 0 k n) = wi k ⟨2816 + (1536 + n.val), by omega⟩)
    (h6 : ∀ (n : Fin 1280) e, w6 (ix3 0 n e) = wo ⟨1536 + n.val, by omega⟩ e) (e : Fin 1024) :
    k0_pay20 (F := Ideal) y w1 w2 w3 w4 w5 w6 (ix2 r e) = ffnOut x wi wo e := by
  pointwise [k0_pay20, hy, h1, h2, h3, h4, h5, h6]
  unfold ffnOut
  rw [sum_mid]
  rfl

/-- The body's last step: the norm of the network's output on top of the row. -/
theorem pay1_at (v140 v182 : FVec Ideal S512x1024 .f32) (g : FVec Ideal S1x1024 .f32)
    (y : FVec Ideal S512x1024 .bf16) (w1 w2 : FVec Ideal S1x1024x1536 .bf16) (w3 : FVec Ideal S1x1536x1024 .bf16)
    (w4 w5 : FVec Ideal S1x1024x1280 .bf16) (w6 : FVec Ideal S1x1280x1024 .bf16)
    (x o g3 : Fin 1024 → EReal) (r : Fin 512)
    (hx : ∀ d, v140 (ix2 r d) = x d) (ho : ∀ d, k0_pay20 (F := Ideal) y w1 w2 w3 w4 w5 w6 (ix2 r d) = o d)
    (hg : ∀ d, g (ix2 0 d) = g3 d) (d : Fin 1024) :
    k0_pay1 (F := Ideal) v140 (k0_pay20 y w1 w2 w3 w4 w5 w6) (k0_pay21 g) (k0_pay22 y w1 w2 w3 w4 w5 w6)
        (FloatOps.ofBits FTy.f32 0x44800000#32) (ix3 0 r d)
      = x d + rms o g3 d := by
  pointwise [k0_pay1, k0_pay21, k0_pay22, hx, ho, hg, rms]

/-- The whole body at one row, from what the loaded blocks hold. -/
theorem body_at (j : Fin 8) (a : ℕ) (ha : a = j.val)
    (X h : Fin 4096 → Fin 1024 → EReal) (pw : Fin 4 → Fin 256 → Fin 256 → EReal) (ps g0 g1 g2 g3 : Fin 1024 → EReal)
    (wi : Fin 1024 → Fin 5632 → EReal) (wo : Fin 2816 → Fin 1024 → EReal)
    (hh : ∀ t d, h t d = rms (X t) g0 d)
    (x : FVec Ideal S1x512x1024 .f32) (b0 bs b1 b2 b3 : FVec Ideal S1x1024 .f32)
    (B0 B1 B2 B3 : FVec Ideal S528x256 .f32) (P0 P1 P2 P3 : FVec Ideal S1x256x256 .bf16)
    (w1 w2 : FVec Ideal S1x1024x1536 .bf16) (w3 : FVec Ideal S1x1536x1024 .bf16)
    (w4 w5 : FVec Ideal S1x1024x1280 .bf16) (w6 : FVec Ideal S1x1280x1024 .bf16)
    (hx : ∀ r d, x (ix3 0 r d) = X (T j r) d)
    (hb0 : ∀ d, b0 (ix2 0 d) = g0 d) (hbs : ∀ d, bs (ix2 0 d) = ps d) (hb1 : ∀ d, b1 (ix2 0 d) = g1 d)
    (hb2 : ∀ d, b2 (ix2 0 d) = g2 d) (hb3 : ∀ d, b3 (ix2 0 d) = g3 d)
    (hB0 : ∀ (c : Fin 528) (e : Fin 256), B0 (ix2 c e) = hz (fun s => h s (chan 0 e)) (512 * j.val + c.val - 1))
    (hB1 : ∀ (c : Fin 528) (e : Fin 256), B1 (ix2 c e) = hz (fun s => h s (chan 1 e)) (512 * j.val + c.val - 1))
    (hB2 : ∀ (c : Fin 528) (e : Fin 256), B2 (ix2 c e) = hz (fun s => h s (chan 2 e)) (512 * j.val + c.val - 1))
    (hB3 : ∀ (c : Fin 528) (e : Fin 256), B3 (ix2 c e) = hz (fun s => h s (chan 3 e)) (512 * j.val + c.val - 1))
    (hP0 : ∀ c e, P0 (ix3 0 c e) = pw 0 c e) (hP1 : ∀ c e, P1 (ix3 0 c e) = pw 1 c e)
    (hP2 : ∀ c e, P2 (ix3 0 c e) = pw 2 c e) (hP3 : ∀ c e, P3 (ix3 0 c e) = pw 3 c e)
    (h1 : ∀ k (n : Fin 1536), w1 (ix3 0 k n) = wi k ⟨n.val, by omega⟩)
    (h2 : ∀ k (n : Fin 1536), w2 (ix3 0 k n) = wi k ⟨2816 + n.val, by omega⟩)
    (h3 : ∀ (n : Fin 1536) e, w3 (ix3 0 n e) = wo ⟨n.val, by omega⟩ e)
    (h4 : ∀ k (n : Fin 1280), w4 (ix3 0 k n) = wi k ⟨1536 + n.val, by omega⟩)
    (h5 : ∀ k (n : Fin 1280), w5 (ix3 0 k n) = wi k ⟨2816 + (1536 + n.val), by omega⟩)
    (h6 : ∀ (n : Fin 1280) e, w6 (ix3 0 n e) = wo ⟨1536 + n.val, by omega⟩ e)
    (r : Fin 512) (d : Fin 1024) :
    k0_pay1 (F := Ideal)
        (k0_pay18 (k0_pay2 x) (k0_pay8 (BitVec.ofNat 32 a)) (k0_pay9 (BitVec.ofNat 32 a) (k0_pay4 x b0) B0 P0)
          (k0_pay13 (k0_pay10 (k0_pay4 x b0)) (k0_pay11 B1) (k0_pay12 (BitVec.ofNat 32 a)) P1)
          (k0_pay14 (k0_pay4 x b0) (k0_pay8 (BitVec.ofNat 32 a)) B2 P2) (k0_pay15 (k0_pay4 x b0)) (k0_pay16 B3) k0_pay17 P3 bs b1)
        (k0_pay20 (k0_pay19 (k0_pay2 x) (k0_pay8 (BitVec.ofNat 32 a)) (k0_pay9 (BitVec.ofNat 32 a) (k0_pay4 x b0) B0 P0)
          (k0_pay13 (k0_pay10 (k0_pay4 x b0)) (k0_pay11 B1) (k0_pay12 (BitVec.ofNat 32 a)) P1)
          (k0_pay14 (k0_pay4 x b0) (k0_pay8 (BitVec.ofNat 32 a)) B2 P2) (k0_pay15 (k0_pay4 x b0)) (k0_pay16 B3) k0_pay17 P3 bs b1 b2)
          w1 w2 w3 w4 w5 w6)
        (k0_pay21 b3)
        (k0_pay22 (k0_pay19 (k0_pay2 x) (k0_pay8 (BitVec.ofNat 32 a)) (k0_pay9 (BitVec.ofNat 32 a) (k0_pay4 x b0) B0 P0)
          (k0_pay13 (k0_pay10 (k0_pay4 x b0)) (k0_pay11 B1) (k0_pay12 (BitVec.ofNat 32 a)) P1)
          (k0_pay14 (k0_pay4 x b0) (k0_pay8 (BitVec.ofNat 32 a)) B2 P2) (k0_pay15 (k0_pay4 x b0)) (k0_pay16 B3) k0_pay17 P3 bs b1 b2)
          w1 w2 w3 w4 w5 w6)
        (FloatOps.ofBits FTy.f32 0x44800000#32) (ix3 0 r d)
      = ffn (mix (X (T j r)) h pw ps g1 (T j r)) g2 wi wo g3 d := by
  subst ha
  have hv : ∀ r d, k0_pay4 (F := Ideal) x b0 (ix2 r d) = h (T j r) d := by
    intro r d
    rw [pay4_at, hh]
    simp only [hx, hb0]
  have hx2 : ∀ r d, k0_pay2 (F := Ideal) x (ix2 r d) = X (T j r) d := by
    intro r d
    pointwise [k0_pay2, hx]
  have hm := pay18_at j h _ hv B3 P3 pw ps g1 X _ hx2 _ _ _
    (fun r e => by simpa only [hP0] using group0 j h _ hv B0 P0 hB0 r e)
    (fun r e => by simpa only [hP1] using group1 j h _ hv B1 P1 hB1 r e)
    (fun r e => by simpa only [hP2] using group2 j h _ hv B2 P2 hB2 r e) hB3 hP3 bs b1 hbs hb1 r
  exact pay1_at _ 0 b3 _ w1 w2 w3 w4 w5 w6 _ _ g3 r hm
    (pay20_at _ w1 w2 w3 w4 w5 w6 _ wi wo r (pay19_at _ _ _ _ _ _ _ _ _ _ _ _ _ g2 r hm hb2) h1 h2 h3 h4 h5 h6) hb3 d

end Cert.PoolIdeal.Point

end
-- ==== Proof.PoolRefRows.lean ====
module

public import proofs.«01_k».proof.Proof.Rows
public import proofs.«01_k».proof.Proof.Gen.PoolRefIdeal.Read
@[expose] public section
set_option maxRecDepth 16384
noncomputable section
namespace Cert.PoolRefIdeal.Rows
open Idealize.ShloMosaic Idealize.ShloMosaic.TcCoe Idealize.SL.Sem Idealize.ShloMosaic.StableHlo
open Cert.PoolRefIdeal Cert.PoolRefIdeal.Gen Cert.PoolRefIdeal.Read Cert.Rows

variable (x0 : FVec Ideal S4x4096x1024 .f32) (x1 : FVec Ideal S4x4x1024 .f32) (x2 : FVec Ideal S4x1024x5632 .f32)
  (x3 : FVec Ideal S4x2816x1024 .f32) (x4 : FVec Ideal S2x4x256x256 .f32) (x5 : FVec Ideal S2x1024 .f32)

/-- The mixer's input: the norm of `x`. -/
def hRow (b : Fin 4) (t : Fin 4096) : Fin 1024 → EReal :=
  rms (fun k => x0 (ix3 b t k)) (fun k => x1 (ix3 0 0 k))

theorem h_at (b : Fin 4) (t : Fin 4096) (d : Fin 1024) :
    val_main_v14 (F := Ideal) x0 x1 (ix3 b t d) = hRow x0 x1 b t d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, hRow, rms]

theorem hz_at (b : Fin 4) (n : Fin 4111) (d : Fin 1024) :
    val_main_v16 (F := Ideal) x0 x1 (ix3 b n d) = hz (fun s => hRow x0 x1 b s d) n.val := by
  pointwise [val_main_v16, hz]
  by_cases h : (n : ℕ) < 15
  · rw [dif_pos h, dif_neg (by omega)]
    pointwise [val_main_v15, val_main_cst_2]
  · rw [dif_neg h, dif_pos (by omega)]
    exact h_at x0 x1 b _ d

/-- Group 0 of the reference: the window sum, then the pooled difference. -/
theorem sum0_at (b : Fin 4) (t : Fin 4096) (c : Fin 256) :
    val_main_v22 (F := Ideal) x0 x1 (ix3 b t c)
      = ∑ k ∈ Finset.range 2, hz (fun s => hRow x0 x1 b s (chan 0 c)) (15 - k + t.val) := by
  pointwise [val_main_v22, val_main_v21, val_main_v20, hz_at]
  simp only [Finset.sum_range_succ, Finset.sum_range_zero, zero_add, Nat.sub_zero, Nat.reduceSub, chan_0]

theorem group0_at (b : Fin 4) (t : Fin 4096) (c : Fin 256) :
    val_main_v30 (F := Ideal) x0 x1 (ix3 b t c) = pooled (hRow x0 x1 b) t 0 c := by
  pointwise [val_main_v30, val_main_v29, val_main_v28, val_main_v27, val_main_v26, val_main_v25, val_main_v24, val_main_v23, val_main_c_3, val_main_v19, val_main_v18, val_main_v17, val_main_c, sum0_at, h_at, pooled]
  rw [chan_0]
  rfl

/-- Group 1 of the reference: the window sum, then the pooled difference. -/
theorem sum1_at (b : Fin 4) (t : Fin 4096) (c : Fin 256) :
    val_main_v37 (F := Ideal) x0 x1 (ix3 b t c)
      = ∑ k ∈ Finset.range 4, hz (fun s => hRow x0 x1 b s (chan 1 c)) (15 - k + t.val) := by
  pointwise [val_main_v37, val_main_v36, val_main_v35, val_main_v34, val_main_v33, val_main_v32, val_main_v31, hz_at]
  simp only [Finset.sum_range_succ, Finset.sum_range_zero, zero_add, Nat.sub_zero, Nat.reduceSub, chan_1]

theorem group1_at (b : Fin 4) (t : Fin 4096) (c : Fin 256) :
    val_main_v45 (F := Ideal) x0 x1 (ix3 b t c) = pooled (hRow x0 x1 b) t 1 c := by
  pointwise [val_main_v45, val_main_v44, val_main_v43, val_main_v42, val_main_v41, val_main_v40, val_main_v39, val_main_v38, val_main_c_4, val_main_v19, val_main_v18, val_main_v17, val_main_c, sum1_at, h_at, pooled]
  rw [chan_1]
  rfl

/-- Group 2 of the reference: the window sum, then the pooled difference. -/
theorem sum2_at (b : Fin 4) (t : Fin 4096) (c : Fin 256) :
    val_main_v60 (F := Ideal) x0 x1 (ix3 b t c)
      = ∑ k ∈ Finset.range 8, hz (fun s => hRow x0 x1 b s (chan 2 c)) (15 - k + t.val) := by
  pointwise [val_main_v60, val_main_v59, val_main_v58, val_main_v57, val_main_v56, val_main_v55, val_main_v54, val_main_v53, val_main_v52, val_main_v51, val_main_v50, val_main_v49, val_main_v48, val_main_v47, val_main_v46, hz_at]
  simp only [Finset.sum_range_succ, Finset.sum_range_zero, zero_add, Nat.sub_zero, Nat.reduceSub, chan_2]

theorem group2_at (b : Fin 4) (t : Fin 4096) (c : Fin 256) :
    val_main_v68 (F := Ideal) x0 x1 (ix3 b t c) = pooled (hRow x0 x1 b) t 2 c := by
  pointwise [val_main_v68, val_main_v67, val_main_v66, val_main_v65, val_main_v64, val_main_v63, val_main_v62, val_main_v61, val_main_c_5, val_main_v19, val_main_v18, val_main_v17, val_main_c, sum2_at, h_at, pooled]
  rw [chan_2]
  rfl

/-- Group 3 of the reference: the window sum, then the pooled difference. -/
theorem sum3_at (b : Fin 4) (t : Fin 4096) (c : Fin 256) :
    val_main_v99 (F := Ideal) x0 x1 (ix3 b t c)
      = ∑ k ∈ Finset.range 16, hz (fun s => hRow x0 x1 b s (chan 3 c)) (15 - k + t.val) := by
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, hz_at]
  simp only [Finset.sum_range_succ, Finset.sum_range_zero, zero_add, Nat.sub_zero, Nat.reduceSub, chan_3]

theorem group3_at (b : Fin 4) (t : Fin 4096) (c : Fin 256) :
    val_main_v107 (F := Ideal) x0 x1 (ix3 b t c) = pooled (hRow x0 x1 b) t 3 c := by
  pointwise [val_main_v107, val_main_v106, val_main_v105, val_main_v104, val_main_v103, val_main_v102, val_main_v101, val_main_v100, val_main_c_6, val_main_v19, val_main_v18, val_main_v17, val_main_c, sum3_at, h_at, pooled]
  rw [chan_3]
  rfl

/-- The four groups side by side. -/
theorem groups_at (b : Fin 4) (t : Fin 4096) (g : Fin 4) (c : Fin 256) :
    val_main_v112 (F := Ideal) x0 x1 (ix4 b t g c) = pooled (hRow x0 x1 b) t g c := by
  pointwise [val_main_v112, val_main_v111, val_main_v110, val_main_v109, val_main_v108]
  fin_vals g with hg
  all_goals simp only [hg, Nat.reduceSub, Nat.reduceLT, ↓reduceDIte]
  · rw [show g = 0 from Fin.ext hg]; exact group0_at x0 x1 b t c
  · rw [show g = 1 from Fin.ext hg]; exact group1_at x0 x1 b t c
  · rw [show g = 2 from Fin.ext hg]; exact group2_at x0 x1 b t c
  · rw [show g = 3 from Fin.ext hg]; exact group3_at x0 x1 b t c

theorem mix_at (b : Fin 4) (t : Fin 4096) (d : Fin 1024) :
    val_main_v122 (F := Ideal) x0 x1 x4 x5 (ix3 b t d)
      = mixRow (hRow x0 x1 b) (fun g c e => x4 (ix4 0 g c e)) (fun k => x5 (ix2 0 k)) t d := by
  pointwise [val_main_v122, val_main_v121, val_main_v120, val_main_v119, val_main_v118, val_main_v117, val_main_v116, val_main_v115, val_main_v114, val_main_v113, groups_at]
  unfold mixRow
  exact congrArg (· * x5 (ix2 0 d)) (Finset.sum_congr rfl fun k _ => mul_comm _ _)

/-- The mixer half of the layer. -/
def xRow (b : Fin 4) (t : Fin 4096) : Fin 1024 → EReal :=
  mix (fun k => x0 (ix3 b t k)) (hRow x0 x1 b) (fun g c e => x4 (ix4 0 g c e)) (fun k => x5 (ix2 0 k))
    (fun k => x1 (ix3 0 1 k)) t

theorem x_at (b : Fin 4) (t : Fin 4096) (d : Fin 1024) :
    val_main_v138 (F := Ideal) x0 x1 x4 x5 (ix3 b t d) = xRow x0 x1 x4 x5 b t d := by
  pointwise [val_main_v138, val_main_v137, val_main_v136, val_main_v135, val_main_v134, val_main_v133, val_main_v132, val_main_v131, val_main_v130, val_main_v129, val_main_v128, val_main_v127, val_main_v126, val_main_v125, val_main_v124, val_main_v123, val_main_cst_7, val_main_cst_8, val_main_cst_9, mix_at, xRow, mix, rms]

theorem y_at (b : Fin 4) (t : Fin 4096) (d : Fin 1024) :
    val_main_v153 (F := Ideal) x0 x1 x4 x5 (ix3 b t d) = rms (xRow x0 x1 x4 x5 b t) (fun k => x1 (ix3 0 2 k)) d := by
  pointwise [val_main_v153, val_main_v152, val_main_v151, val_main_v150, val_main_v149, val_main_v148, val_main_v147, val_main_v146, val_main_v145, val_main_v144, val_main_v143, val_main_v142, val_main_v141, val_main_v140, val_main_v139, val_main_cst_10, val_main_cst_11, val_main_cst_12, x_at, rms]

theorem ffn_at (b : Fin 4) (t : Fin 4096) (d : Fin 1024) :
    val_main_v163 (F := Ideal) x0 x1 x2 x3 x4 x5 (ix3 b t d)
      = ffnOut (rms (xRow x0 x1 x4 x5 b t) (fun k => x1 (ix3 0 2 k))) (fun k j => x2 (ix3 0 k j)) (fun j e => x3 (ix3 0 j e)) d := by
  pointwise [val_main_v163, val_main_v162, val_main_v161, val_main_v160, val_main_v159, val_main_v158, val_main_v157, val_main_v156, val_main_v155, val_main_v154, val_main_call0_v0, val_main_call0_v1, val_main_call0_cst, val_main_call0_v2, val_main_call0_v3, val_main_call0_cst_0, val_main_call0_v4, val_main_call0_v5, y_at, ffnOut, ffnMid, ffnIn, gate, Ideal.logistic]

/-- The layer's first result, row by row. -/
theorem out_at (b : Fin 4) (t : Fin 4096) (d : Fin 1024) :
    val_main_v179 (F := Ideal) x0 x1 x2 x3 x4 x5 (ix3 b t d)
      = ffn (xRow x0 x1 x4 x5 b t) (fun k => x1 (ix3 0 2 k)) (fun k j => x2 (ix3 0 k j)) (fun j e => x3 (ix3 0 j e))
          (fun k => x1 (ix3 0 3 k)) d := by
  pointwise [val_main_v179, val_main_v178, val_main_v177, val_main_v176, val_main_v175, val_main_v174, val_main_v173, val_main_v172, val_main_v171, val_main_v170, val_main_v169, val_main_v168, val_main_v167, val_main_v166, val_main_v165, val_main_v164, val_main_cst_13, val_main_cst_14, val_main_cst_15, x_at, ffn_at, ffn, rms]

/-- The layer's second result, the last sixteen rows of the mixer's input. -/
theorem tail_at (b : Fin 4) (r : Fin 16) (d : Fin 1024) :
    val_main_v180 (F := Ideal) x0 x1 (ix3 b r d) = hRow x0 x1 b ⟨4080 + r.val, by omega⟩ d := by
  pointwise [val_main_v180, h_at]

/-- The layer's first result as one array. -/
def outArr : FVec Ideal S4x4096x1024 .f32 := fun i =>
  ffn (xRow x0 x1 x4 x5 (i 0) (i 1)) (fun k => x1 (ix3 0 2 k)) (fun k j => x2 (ix3 0 k j)) (fun j e => x3 (ix3 0 j e))
    (fun k => x1 (ix3 0 3 k)) (i 2)

theorem out_eq : val_main_v179 (F := Ideal) x0 x1 x2 x3 x4 x5 = outArr x0 x1 x2 x3 x4 x5 := by
  funext i
  rw [eq_ix3 i]
  exact out_at x0 x1 x2 x3 x4 x5 (i 0) (i 1) (i 2)

/-- The layer's second result as one array. -/
def tailArr : FVec Ideal S4x16x1024 .f32 := fun i =>
  hRow x0 x1 (i 0) ⟨4080 + (i 1).val, by have h : (i 1).val < 16 := (i 1).isLt; omega⟩ (i 2)

theorem tail_eq : val_main_v180 (F := Ideal) x0 x1 = tailArr x0 x1 := by
  funext i
  rw [eq_ix3 i]
  exact tail_at x0 x1 (i 0) (i 1) (i 2)

end Cert.PoolRefIdeal.Rows
end
-- ==== Proof.PoolBlocks.lean ====
module

public import proofs.«01_k».proof.Proof.PoolRow
public import proofs.«01_k».proof.Proof.PoolRefRows
public import proofs.«01_k».proof.Proof.Gen.PoolIdeal.Value
public import Idealize.ShloMosaic.Lib.Pipeline.ValueKit

@[expose] public section

set_option maxRecDepth 16384

noncomputable section

/-! # What the pooling call leaves in its two results

Every grid point reads its block of 512 rows, the sixteen rows in front of it and all the weights; its block of the
result is what the reference has in those rows.  The second result keeps the last sixteen rows of the mixer's input. -/

namespace Cert.PoolIdeal.Final

open Idealize.ShloMosaic Idealize.ShloMosaic.TcCoe Idealize.SL.Sem
open Cert.PoolIdeal Cert.PoolIdeal.Gen Cert.PoolIdeal.Point Cert.PoolRefIdeal.Rows Cert.Rows

/-- What any load of the scratch reads once both stores are made: row `n` of `G`, if the stores are the rows of `G`. -/
theorem scratch_at {κ : Kind} {sp : Space} (v : View sig κ sp S528x1024 .f32) (p1 : FVec Ideal S512x1024 .f32)
    (p0 : FVec Ideal S16x1024 .f32) (G : ℕ → Fin 1024 → EReal)
    (h1 : ∀ (r : Fin 512) (d : Fin 1024), p1 (ix2 r d) = G (16 + r.val) d)
    (h0 : ∀ (r : Fin 16) (d : Fin 1024), p0 (ix2 r d) = G r.val d)
    (B : LoadRect S528x1024) (j : B.shape.Idx) :
    v.readCov (Val := Elt Ideal)
        [(⟨Rect.unit ![16, 0] ![512, 1024] inb_S528x1024_S512x1024_16_0, p1⟩ : View.Piece (Elt Ideal) S528x1024 .f32),
        ⟨Rect.unit ![0, 0] ![16, 1024] inb_S528x1024_S16x1024_0_0, p0⟩] B j = G (B.idx j 0).val (B.idx j 1) := by
  rw [View.readCov_eq_canon']
  show View.canon _ (B.idx j) = _
  generalize B.idx j = y
  have cover : ∃ p ∈ [(⟨Rect.unit ![16, 0] ![512, 1024] inb_S528x1024_S512x1024_16_0, p1⟩ : View.Piece (Elt Ideal) S528x1024 .f32),
        ⟨Rect.unit ![0, 0] ![16, 1024] inb_S528x1024_S16x1024_0_0, p0⟩], y ∈ p.1.set := by
    have hy0 : (y 0).val < 528 := (y 0).isLt
    have hy1 : (y 1).val < 1024 := (y 1).isLt
    by_cases hi : (y 0).val < 16
    · refine ⟨⟨Rect.unit ![0, 0] ![16, 1024] inb_S528x1024_S16x1024_0_0, p0⟩, List.mem_cons_of_mem _ List.mem_cons_self, ?_⟩
      have h : ∀ a : Fin 2, (![0, 0] : Fin 2 → ℕ) a ≤ (y a).val ∧ (y a).val < (![0, 0] : Fin 2 → ℕ) a + (![16, 1024] : Fin 2 → ℕ) a :=
        Fin.forall_fin_two.mpr ⟨⟨Nat.zero_le _, (Nat.zero_add 16).symm ▸ hi⟩, ⟨Nat.zero_le _, (Nat.zero_add 1024).symm ▸ hy1⟩⟩
      exact (Rect.mem_set_unit (inb := inb_S528x1024_S16x1024_0_0)).mpr h
    · refine ⟨⟨Rect.unit ![16, 0] ![512, 1024] inb_S528x1024_S512x1024_16_0, p1⟩, List.mem_cons_self, ?_⟩
      have h : ∀ a : Fin 2, (![16, 0] : Fin 2 → ℕ) a ≤ (y a).val ∧ (y a).val < (![16, 0] : Fin 2 → ℕ) a + (![512, 1024] : Fin 2 → ℕ) a :=
        Fin.forall_fin_two.mpr ⟨⟨Nat.le_of_not_lt hi, hy0⟩, ⟨Nat.zero_le _, (Nat.zero_add 1024).symm ▸ hy1⟩⟩
      exact (Rect.mem_set_unit (inb := inb_S528x1024_S512x1024_16_0)).mpr h
  canon_tiles x e using cover
  · obtain ⟨r, d, rfl⟩ : ∃ (r : Fin 512) (d : Fin 1024), x = ix2 r d := ⟨x 0, x 1, by funext a; fin_cases a <;> rfl⟩
    rw [h1, e0, show y 1 = d from Fin.ext e1]
    rfl
  · obtain ⟨r, d, rfl⟩ : ∃ (r : Fin 16) (d : Fin 1024), x = ix2 r d := ⟨x 0, x 1, by funext a; fin_cases a <;> rfl⟩
    rw [h0, e0, show y 1 = d from Fin.ext e1]
    rfl

/-- Where every window's block lies at grid point `t`. -/
theorem idx : ∀ t : Fin cfg0.N, win0_0.index t = ![t.val / 8, t.val % 8, 0] ∧ win0_1.index t = ![t.val / 8, t.val % 8 * 32 - 1, 0]
    ∧ win0_2.index t = ![t.val / 8, 0, 0] ∧ win0_3.index t = ![0, 0] ∧ win0_4.index t = ![0, 0, 0] ∧ win0_5.index t = ![0, 0]
    ∧ win0_6.index t = ![0, 0] ∧ win0_7.index t = ![0, 0] ∧ win0_8.index t = ![0, 0, 0] ∧ win0_9.index t = ![0, 0, 0]
    ∧ win0_10.index t = ![0, 0] ∧ win0_11.index t = ![t.val / 8, t.val % 8, 0] ∧ win0_12.index t = ![t.val / 8, 0, 0]
    ∧ (grid0.coords t 1).val = t.val % 8 ∧ t.val / 8 < 4 :=
  (by decide +kernel : ∀ t : Fin grid0.N, _)

theorem lt_N (t : Fin cfg0.N) : t.val < 32 := t.isLt

variable (m : (ℓ : Loc nD τ sig) → Buf (Elt Ideal) ℓ) (c : Dev nD)

/-- The batch and the column of grid point `t`. -/
abbrev bat (t : Fin cfg0.N) : Fin 4 := ⟨t.val / 8, by have := lt_N t; omega⟩
abbrev col (t : Fin cfg0.N) : Fin 8 := ⟨t.val % 8, by omega⟩

abbrev A0 : FVec Ideal S4x4096x1024 .f32 := m ((c : Thread nD τ).loc main_arg0)
abbrev A1 : FVec Ideal S4x4x1024 .f32 := m ((c : Thread nD τ).loc main_arg1)
abbrev A2 : FVec Ideal S4x1024x5632 .bf16 := m ((c : Thread nD τ).loc main_arg2)
abbrev A3 : FVec Ideal S4x2816x1024 .bf16 := m ((c : Thread nD τ).loc main_arg3)
abbrev A4 : FVec Ideal S2x4x256x256 .bf16 := m ((c : Thread nD τ).loc main_arg4)
abbrev A5 : FVec Ideal S2x1024 .f32 := m ((c : Thread nD τ).loc main_arg5)

/-- The two results, as the reference has them. -/
abbrev out : FVec Ideal S4x4096x1024 .f32 := outArr (A0 m c) (A1 m c) (A2 m c) (A3 m c) (A4 m c) (A5 m c)
abbrev tail : FVec Ideal S4x16x1024 .f32 := tailArr (A0 m c) (A1 m c)

section Blocks

variable (t : Fin cfg0.N)

theorem x_blk (r : Fin 512) (d : Fin 1024) : iblk m c 0 t (ix3 0 r d) = A0 m c (ix3 (bat t) (T (col t) r) d) := by
  blk_point [iblk, V, idx t]

theorem prev_blk (h : t.val % 8 ≠ 0) (r : Fin 16) (d : Fin 1024) :
    iblk m c 1 t (ix3 0 r d) = A0 m c (ix3 (bat t) ⟨512 * (t.val % 8) - 16 + r.val, by omega⟩ d) := by
  blk_point [iblk, V, idx t]

theorem hist_blk (r : Fin 16) (d : Fin 1024) : iblk m c 2 t (ix3 0 r d) = (0 : EReal) := by
  blk_simp [iblk, V, idx t]
  entry_read
  pointwise

theorem g0_blk (d : Fin 1024) : iblk m c 3 t (ix2 0 d) = A1 m c (ix3 0 0 d) := by
  blk_point [iblk, V, idx t]

theorem pw_blk (g : Fin 4) (k e : Fin 256) : iblk m c 4 t (ix3 g k e) = A4 m c (ix4 0 g k e) := by
  blk_point [iblk, V, idx t]

theorem ps_blk (d : Fin 1024) : iblk m c 5 t (ix2 0 d) = A5 m c (ix2 0 d) := by
  blk_point [iblk, V, idx t]

theorem g1_blk (d : Fin 1024) : iblk m c 6 t (ix2 0 d) = A1 m c (ix3 0 1 d) := by
  blk_point [iblk, V, idx t]

theorem g2_blk (d : Fin 1024) : iblk m c 7 t (ix2 0 d) = A1 m c (ix3 0 2 d) := by
  blk_point [iblk, V, idx t]

theorem wi_blk (k : Fin 1024) (n : Fin 5632) : iblk m c 8 t (ix3 0 k n) = A2 m c (ix3 0 k n) := by
  blk_point [iblk, V, idx t]

theorem wo_blk (n : Fin 2816) (d : Fin 1024) : iblk m c 9 t (ix3 0 n d) = A3 m c (ix3 0 n d) := by
  blk_point [iblk, V, idx t]

theorem g3_blk (d : Fin 1024) : iblk m c 10 t (ix2 0 d) = A1 m c (ix3 0 3 d) := by
  blk_point [iblk, V, idx t]

end Blocks

/-- The scratch of grid point `t`: row `n` of the zero-fronted column, `512 j` rows on. -/
def scr (t : Fin cfg0.N) (n : ℕ) (d : Fin 1024) : EReal :=
  hz (fun s => hRow (A0 m c) (A1 m c) (bat t) s d) (512 * (col t).val + n - 1)

theorem scr_new (t : Fin cfg0.N) (r : Fin 512) (d : Fin 1024) :
    k0_pay6 (F := Ideal) (k0_pay4 (iblk m c 0 t) (iblk m c 3 t)) (ix2 r d) = scr m c t (16 + r.val) d := by
  have h : k0_pay6 (F := Ideal) (k0_pay4 (iblk m c 0 t) (iblk m c 3 t)) (ix2 r d)
      = k0_pay4 (F := Ideal) (iblk m c 0 t) (iblk m c 3 t) (ix2 r d) := by
    generalize k0_pay4 (F := Ideal) (iblk m c 0 t) (iblk m c 3 t) = w
    pointwise [k0_pay6]
  rw [h, pay4_at]
  simp only [x_blk, g0_blk, scr, hz]
  rw [dif_pos ⟨by omega, by have := (col t).isLt; omega⟩]
  simp only [hRow]
  congr 1
  funext k
  exact congrArg (fun s => A0 m c (ix3 (bat t) s k)) (Fin.ext (by show 512 * (col t).val + r.val = _; simp only []; omega))

theorem scr_old (t : Fin cfg0.N) (r : Fin 16) (d : Fin 1024) :
    k0_pay5 (F := Ideal) (grid0.coords t) (iblk m c 3 t) (iblk m c 2 t) (iblk m c 1 t) (ix2 r d) = scr m c t r.val d := by
  rw [pay5_at, (idx t).2.2.2.2.2.2.2.2.2.2.2.2.2.1]
  by_cases h : t.val % 8 = 0
  · rw [if_pos h, hist_blk]
    simp only [scr, hz]
    rw [dif_neg (by show ¬ (15 ≤ 512 * (t.val % 8) + r.val - 1 ∧ _); omega)]
  · rw [if_neg h]
    simp only [prev_blk m c t h, g0_blk, scr, hz]
    rw [dif_pos ⟨by show 15 ≤ 512 * (t.val % 8) + r.val - 1; omega, by show 512 * (t.val % 8) + r.val - 1 - 15 < 4096; omega⟩]
    simp only [hRow]
    congr 1
    funext k
    exact congrArg (fun s => A0 m c (ix3 (bat t) s k)) (Fin.ext (by show 512 * (t.val % 8) - 16 + r.val = 512 * (t.val % 8) + r.val - 1 - 15; omega))

/-- A load of one group's channels of the scratch. -/
theorem scr_read (t : Fin cfg0.N) (v : View sig .tc .vmem S528x1024 .f32) (n : Fin 528) (e : Fin 256) (g : Fin 4)
    (o : ℕ) (inb : ∀ a, (![0, o] : Fin 2 → ℕ) a + (![528, 256] : Fin 2 → ℕ) a ≤ S528x1024.size a) (ho : o = 256 * g.val) :
    v.readCov (Val := Elt Ideal)
        [(⟨Rect.unit ![16, 0] ![512, 1024] inb_S528x1024_S512x1024_16_0,
            k0_pay6 (k0_pay4 (iblk m c 0 t) (iblk m c 3 t))⟩ : View.Piece (Elt Ideal) S528x1024 .f32),
          ⟨Rect.unit ![0, 0] ![16, 1024] inb_S528x1024_S16x1024_0_0,
            k0_pay5 (grid0.coords t) (iblk m c 3 t) (iblk m c 2 t) (iblk m c 1 t)⟩]
        (Rect.unit (s := S528x1024) ![0, o] ![528, 256] inb).toLoadRect (ix2 n e)
      = hz (fun s => hRow (A0 m c) (A1 m c) (bat t) s (chan g e)) (512 * (col t).val + n.val - 1) := by
  refine (scratch_at v _ _ (scr m c t) (scr_new m c t) (scr_old m c t) _ _).trans ?_
  have e0 : ((Rect.unit (s := S528x1024) ![0, o] ![528, 256] inb).toLoadRect.idx (ix2 n e) 0).val = n.val := by
    show 0 + 1 * n.val = n.val
    omega
  have e1 : (Rect.unit (s := S528x1024) ![0, o] ![528, 256] inb).toLoadRect.idx (ix2 n e) 1 = chan g e :=
    Fin.ext (by show o + 1 * e.val = 256 * g.val + e.val; omega)
  rw [e0, e1]
  rfl

end Cert.PoolIdeal.Final

end
-- ==== Proof.PoolFinal.lean ====
module

public import proofs.«01_k».proof.Proof.PoolBlocks
public import proofs.«01_k».proof.Proof.Gen.PoolIdeal.Value
public import Idealize.ShloMosaic.Lib.Pipeline.ValueKit

@[expose] public section

set_option maxRecDepth 16384

noncomputable section

/-! # The two results of the pooling call -/

namespace Cert.PoolIdeal.Final

open Idealize.ShloMosaic Idealize.ShloMosaic.TcCoe Idealize.SL.Sem
open Cert.PoolIdeal Cert.PoolIdeal.Gen Cert.PoolIdeal.Point Cert.PoolRefIdeal.Rows Cert.Rows

variable (m : (ℓ : Loc nD τ sig) → Buf (Elt Ideal) ℓ) (c : Dev nD)

theorem final11 : (dats m 0 c).arrAt 11 cfg0.N = out m c := by
  refine (dats m 0 c).arrAt_eq_of_covers 11 _ (by decide +kernel) fun t hf y => ?_
  blk_simp
  rw [after0_11]
  unfold Gen.outsAt0
  dsimp only
  frame_out
  obtain ⟨r, d, rfl⟩ : ∃ (r : Fin 512) (d : Fin 1024), y = ix3 0 r d :=
    ⟨y 1, y 2, by funext a; fin_cases a <;> first | exact Subsingleton.elim (α := Fin 1) _ _ | rfl⟩
  refine (body_at (col t) _ (idx t).2.2.2.2.2.2.2.2.2.2.2.2.2.1 (fun s k => A0 m c (ix3 (bat t) s k)) (hRow (A0 m c) (A1 m c) (bat t))
    (fun g k e => A4 m c (ix4 0 g k e)) (fun d => A5 m c (ix2 0 d)) (fun d => A1 m c (ix3 0 0 d)) (fun d => A1 m c (ix3 0 1 d))
    (fun d => A1 m c (ix3 0 2 d)) (fun d => A1 m c (ix3 0 3 d)) (fun k n => A2 m c (ix3 0 k n)) (fun n d => A3 m c (ix3 0 n d))
    (fun _ _ => rfl) _ _ _ _ _ _ _ _ _ _ _ _ _ _ _ _ _ _ _ _ (x_blk m c t) (g0_blk m c t) (ps_blk m c t) (g1_blk m c t)
    (g2_blk m c t) (g3_blk m c t) ?_ ?_ ?_ ?_ ?_ ?_ ?_ ?_ ?_ ?_ ?_ ?_ ?_ ?_ r d).trans ?_
  · exact fun n e => scr_read m c t _ n e 0 _ _ rfl
  · exact fun n e => scr_read m c t _ n e 1 _ _ rfl
  · exact fun n e => scr_read m c t _ n e 2 _ _ rfl
  · exact fun n e => scr_read m c t _ n e 3 _ _ rfl
  iterate 4 exact fun k e => by pointwise [pw_blk m c t]
  iterate 2 exact fun k n => by pointwise [wi_blk m c t]
  · exact fun k n => by pointwise [wo_blk m c t]
  · exact fun k n => by pointwise [wi_blk m c t]
  · intro k n
    pointwise [wi_blk m c t]
    exact congrArg (fun i => A2 m c (ix3 0 k i)) (Fin.ext (Nat.add_assoc 2816 1536 n.val))
  · exact fun k n => by pointwise [wo_blk m c t]
  · have e : ∀ G : FVec Ideal S4x4096x1024 .f32,
        G (((View.whole main_v21_0).slice (win0_11.rect t)).emb (ix3 0 r d)) = G (ix3 (bat t) (T (col t) r) d) := by
      intro G
      blk_point [idx t]
    exact Eq.trans rfl (e (out m c)).symm

/-- The second result's window writes its array back only after the last grid column. -/
theorem flush12 : ∀ t : Fin cfg0.N, (cfg0.win 12).flush t = true → t.val % 8 = 7 :=
  (by decide +kernel : ∀ t : Fin grid0.N, _)

theorem pay7_at (w : FVec Ideal S16x1024 .f32) (r : Fin 16) (d : Fin 1024) :
    k0_pay7 (F := Ideal) w (ix3 0 r d) = w (ix2 r d) := by
  pointwise [k0_pay7]

/-- The scratch's last sixteen rows in the last grid column. -/
theorem tail_scr (t : Fin cfg0.N) (ht : t.val % 8 = 7) (r : Fin 16) (d : Fin 1024) :
    scr m c t (512 + r.val) d = tail m c (ix3 (bat t) r d) := by
  simp only [scr, hz, ht]
  rw [dif_pos ⟨by omega, by omega⟩]
  exact congrArg (fun s => hRow (A0 m c) (A1 m c) (bat t) s d)
    (Fin.ext (by show 512 * 7 + (512 + r.val) - 1 - 15 = 4080 + r.val; omega))

/-- The load that fills the second result. -/
theorem tail_read (t : Fin cfg0.N) (v : View sig .tc .vmem S528x1024 .f32) (n : Fin 16) (e : Fin 1024) :
    v.readCov (Val := Elt Ideal)
        [(⟨Rect.unit ![16, 0] ![512, 1024] inb_S528x1024_S512x1024_16_0,
            k0_pay6 (k0_pay4 (iblk m c 0 t) (iblk m c 3 t))⟩ : View.Piece (Elt Ideal) S528x1024 .f32),
          ⟨Rect.unit ![0, 0] ![16, 1024] inb_S528x1024_S16x1024_0_0,
            k0_pay5 (grid0.coords t) (iblk m c 3 t) (iblk m c 2 t) (iblk m c 1 t)⟩]
        (Rect.unit (s := S528x1024) ![512, 0] ![16, 1024] inb_S528x1024_S16x1024_512_0).toLoadRect (ix2 n e)
      = scr m c t (512 + n.val) e := by
  refine (scratch_at v _ _ (scr m c t) (scr_new m c t) (scr_old m c t) _ _).trans ?_
  have e0 : ((Rect.unit (s := S528x1024) ![512, 0] ![16, 1024] inb_S528x1024_S16x1024_512_0).toLoadRect.idx (ix2 n e) 0).val
      = 512 + n.val := by
    show 512 + 1 * n.val = 512 + n.val
    omega
  have e1 : (Rect.unit (s := S528x1024) ![512, 0] ![16, 1024] inb_S528x1024_S16x1024_512_0).toLoadRect.idx (ix2 n e) 1 = e :=
    Fin.ext (by show 0 + 1 * e.val = e.val; omega)
  rw [e0, e1]

theorem final12 : (dats m 0 c).arrAt 12 cfg0.N = tail m c := by
  refine (dats m 0 c).arrAt_eq_of_covers 12 _ (by decide +kernel) fun t hf y => ?_
  blk_simp
  rw [after0_12]
  unfold Gen.outsAt0
  dsimp only
  frame_out
  have ht : t.val % 8 = 7 := flush12 t hf
  obtain ⟨r, d, rfl⟩ : ∃ (r : Fin 16) (d : Fin 1024), y = ix3 0 r d :=
    ⟨y 1, y 2, by funext a; fin_cases a <;> first | exact Subsingleton.elim (α := Fin 1) _ _ | rfl⟩
  have e : ∀ G : FVec Ideal S4x16x1024 .f32,
      G (((View.whole main_v21_1).slice (win0_12.rect t)).emb (ix3 0 r d)) = G (ix3 (bat t) r d) := by
    intro G
    blk_point [idx t]
  exact ((pay7_at _ r d).trans (tail_read m c t _ r d)).trans ((tail_scr m c t ht r d).trans (e (tail m c)).symm)

end Cert.PoolIdeal.Final

end
-- ==== Proof.PoolClaim.lean ====
module

public import proofs.«01_k».proof.Defs
public import proofs.«01_k».proof.Proof.PoolFinal
public import proofs.«01_k».proof.Proof.Gen.PoolRefIdeal.Run
public import proofs.«01_k».proof.Proof.Gen.PoolRefIdeal.Read
public import Idealize.ShloMosaic.Lib.Claim

@[expose] public section

set_option maxRecDepth 16384

noncomputable section

/-! # The pooling call computes what its reference computes -/

namespace Cert.Proof

open Idealize.ShloMosaic Idealize.SL.Sem

set_option maxHeartbeats 1600000 in
theorem pool_algebraic [Cert.PoolIdeal.Facts] [Cert.PoolRefIdeal.Facts] : Cert.algebraic_PoolIdeal_PoolRefIdeal := by
  pair_intro
  · run_from Cert.PoolIdeal.Value.run_blocks m g
  · run_from Cert.PoolRefIdeal.Value.run m' g'
    · obtain ⟨h0, h1, h2, h3, h4, h5⟩ := hagree c
      rw [← h1]
      refine Eq.trans (Cert.PoolRefIdeal.Read.val_main_v179_eq (StableHlo.launchContents m' c)) ?_
      show Cert.PoolRefIdeal.Read.val_main_v179 (F := Ideal) (m' (c.tc.loc Cert.PoolRefIdeal.main_arg0)) (m' (c.tc.loc Cert.PoolRefIdeal.main_arg1)) (m' (c.tc.loc Cert.PoolRefIdeal.main_arg2)) (m' (c.tc.loc Cert.PoolRefIdeal.main_arg3)) (m' (c.tc.loc Cert.PoolRefIdeal.main_arg4)) (m' (c.tc.loc Cert.PoolRefIdeal.main_arg5)) = _
      rw [h0, h1, h2, h3, h4, h5]
      exact (Cert.PoolRefIdeal.Rows.out_eq _ _ _ _ _ _).trans (Cert.PoolIdeal.Final.final11 m c).symm
    · obtain ⟨h0, h1, -⟩ := hagree c
      refine Eq.trans (Cert.PoolRefIdeal.Read.val_main_v180_eq (StableHlo.launchContents m' c)) ?_
      show Cert.PoolRefIdeal.Read.val_main_v180 (F := Ideal) (m' (c.tc.loc Cert.PoolRefIdeal.main_arg0)) (m' (c.tc.loc Cert.PoolRefIdeal.main_arg1)) = _
      rw [h0, h1]
      exact (Cert.PoolRefIdeal.Rows.tail_eq _ _).trans (Cert.PoolIdeal.Final.final12 m c).symm

theorem pool_ref_frame [Cert.PoolRefIdeal.Facts] : Cert.quiescent_PoolRefIdeal := fun m g _ =>
  (θ_run _ _ _).mono (fun _ h => ⟨fun c => (h c).2.2, sem_eq_zero_of_no_sems rfl _⟩) (Cert.PoolRefIdeal.Value.run m g)

end Cert.Proof

end
-- ==== Proof.FfnRefRows.lean ====
module

public import proofs.«01_k».proof.Proof.Rows
public import proofs.«01_k».proof.Proof.Gen.FfnRefIdeal.Read

@[expose] public section

set_option maxRecDepth 16384

noncomputable section

/-! # The feed-forward reference, row by row -/

namespace Cert.FfnRefIdeal.Rows

open Idealize.ShloMosaic Idealize.ShloMosaic.TcCoe Idealize.SL.Sem Idealize.ShloMosaic.StableHlo
open Cert.FfnRefIdeal Cert.FfnRefIdeal.Gen Cert.FfnRefIdeal.Read Cert.Rows

variable (x0 : FVec Ideal S16384x1024 .f32) (x1 : FVec Ideal S4x4x1024 .f32) (x2 : FVec Ideal S4x1024x5632 .f32)
  (x3 : FVec Ideal S4x2816x1024 .f32)

theorem y_at (t : Fin 16384) (d : Fin 1024) :
    val_main_v14 (F := Ideal) x0 x1 (ix2 t d) = rms (fun k => x0 (ix2 t k)) (fun k => x1 (ix3 2 2 k)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

theorem ffn_at (t : Fin 16384) (d : Fin 1024) :
    val_main_v24 (F := Ideal) x0 x1 x2 x3 (ix2 t d)
      = ffnOut (rms (fun k => x0 (ix2 t k)) (fun k => x1 (ix3 2 2 k))) (fun k j => x2 (ix3 2 k j))
          (fun j e => x3 (ix3 2 j e)) d := by
  pointwise [val_main_v24, val_main_v23, val_main_v22, val_main_v21, val_main_v20, val_main_v19, val_main_v18, val_main_v17, val_main_v16, val_main_v15, val_main_call0_v0, val_main_call0_v1, val_main_call0_cst, val_main_call0_v2, val_main_call0_v3, val_main_call0_cst_0, val_main_call0_v4, val_main_call0_v5, y_at, ffnOut, ffnMid, ffnIn, gate, Ideal.logistic]

/-- The result as one array: the feed-forward half of the layer, for every row. -/
def outArr : FVec Ideal S16384x1024 .f32 := fun i =>
  ffn (fun k => x0 (ix2 (i 0) k)) (fun k => x1 (ix3 2 2 k)) (fun k j => x2 (ix3 2 k j)) (fun j e => x3 (ix3 2 j e))
    (fun k => x1 (ix3 2 3 k)) (i 1)

theorem out_at (t : Fin 16384) (d : Fin 1024) :
    val_main_v40 (F := Ideal) x0 x1 x2 x3 (ix2 t d) = outArr x0 x1 x2 x3 (ix2 t d) := by
  show _ = ffn _ _ _ _ _ _
  pointwise [val_main_v40, val_main_v39, val_main_v38, val_main_v37, val_main_v36, val_main_v35, val_main_v34, val_main_v33, val_main_v32, val_main_v31, val_main_v30, val_main_v29, val_main_v28, val_main_v27, val_main_v26, val_main_v25, val_main_cst_2, val_main_cst_3, val_main_cst_4, ffn_at, ffn, rms]

theorem out_eq : val_main_v40 (F := Ideal) x0 x1 x2 x3 = outArr x0 x1 x2 x3 := by
  funext i
  rw [eq_ix2 i]
  exact out_at x0 x1 x2 x3 (i 0) (i 1)

end Cert.FfnRefIdeal.Rows

end
-- ==== Proof.FfnFinal.lean ====
module

public import proofs.«01_k».proof.Proof.FfnRefRows
public import proofs.«01_k».proof.Proof.Gen.FfnIdeal.Value
public import Idealize.ShloMosaic.Lib.Pipeline.ValueKit

@[expose] public section

set_option maxRecDepth 16384

noncomputable section

/-! # What the feed-forward call leaves in its result -/

namespace Cert.FfnIdeal.Final

open Idealize.ShloMosaic Idealize.ShloMosaic.TcCoe Idealize.SL.Sem
open Cert.FfnIdeal Cert.FfnIdeal.Gen Cert.FfnRefIdeal.Rows Cert.Rows

theorem pay2_at (x : FVec Ideal S512x1024 .f32) (b : FVec Ideal S1x1024 .f32) (X g : Fin 1024 → EReal) (r : Fin 512)
    (hx : ∀ d, x (ix2 r d) = X d) (hb : ∀ k, b (ix2 0 k) = g k) (d : Fin 1024) :
    k0_pay2 (F := Ideal) x b (ix2 r d) = rms X g d := by
  pointwise [k0_pay2, hx, hb, rms]

/-- The whole body at one row, from what the loaded blocks hold. -/
theorem body_at (x : FVec Ideal S512x1024 .f32) (b2 b3 : FVec Ideal S1x1024 .f32)
    (w1 w2 : FVec Ideal S1x1024x1536 .bf16) (w3 : FVec Ideal S1x1536x1024 .bf16)
    (w4 w5 : FVec Ideal S1x1024x1280 .bf16) (w6 : FVec Ideal S1x1280x1024 .bf16)
    (X g2 g3 : Fin 1024 → EReal) (wi : Fin 1024 → Fin 5632 → EReal) (wo : Fin 2816 → Fin 1024 → EReal) (r : Fin 512)
    (hx : ∀ d, x (ix2 r d) = X d) (hb2 : ∀ d, b2 (ix2 0 d) = g2 d) (hb3 : ∀ d, b3 (ix2 0 d) = g3 d)
    (h1 : ∀ k (n : Fin 1536), w1 (ix3 0 k n) = wi k ⟨n.val, by omega⟩)
    (h2 : ∀ k (n : Fin 1536), w2 (ix3 0 k n) = wi k ⟨2816 + n.val, by omega⟩)
    (h3 : ∀ (n : Fin 1536) e, w3 (ix3 0 n e) = wo ⟨n.val, by omega⟩ e)
    (h4 : ∀ k (n : Fin 1280), w4 (ix3 0 k n) = wi k ⟨1536 + n.val, by omega⟩)
    (h5 : ∀ k (n : Fin 1280), w5 (ix3 0 k n) = wi k ⟨2816 + (1536 + n.val), by omega⟩)
    (h6 : ∀ (n : Fin 1280) e, w6 (ix3 0 n e) = wo ⟨1536 + n.val, by omega⟩ e) (d : Fin 1024) :
    k0_pay1 (F := Ideal) x (k0_pay2 x b2) (k0_pay3 x b2 w1 w2 w3) (k0_pay4 x b2 w4) w5 w6 b3 (ix2 r d)
      = ffn X g2 wi wo g3 d := by
  have hy := pay2_at x b2 X g2 r hx hb2
  simp only [k0_pay1, k0_pay3, k0_pay4]
  generalize k0_pay2 (F := Ideal) x b2 = y at hy ⊢
  generalize hV : addf (F := Ideal) (φ := .f32) (s := S512x1024) (matmul _ _ _ _ _) (matmul _ _ _ _ _) = V
  have hVa : ∀ e, V (ix2 r e) = ffnOut (rms X g2) wi wo e := by
    intro e
    rw [← hV]
    pointwise [hy, h1, h2, h3, h4, h5, h6]
    unfold ffnOut
    rw [sum_mid]
    rfl
  pointwise [hVa, hx, hb3, ffn, rms]

/-- Where every window's block lies at grid point `t`. -/
theorem idx : ∀ t : Fin cfg0.N, win0_0.index t = ![t.val, 0] ∧ win0_1.index t = ![0, 0] ∧ win0_2.index t = ![2, 0, 0]
    ∧ win0_3.index t = ![2, 0, 0] ∧ win0_4.index t = ![0, 0] ∧ win0_5.index t = ![t.val, 0] :=
  (by decide +kernel : ∀ t : Fin grid0.N, _)

theorem lt_N (t : Fin cfg0.N) : t.val < 32 := t.isLt

/-- The row of the array that is row `r` of block `t`. -/
abbrev T (t : Fin cfg0.N) (r : Fin 512) : Fin 16384 := ⟨512 * t.val + r.val, by have := lt_N t; omega⟩

variable (m : (ℓ : Loc nD τ sig) → Buf (Elt Ideal) ℓ) (c : Dev nD)

abbrev A0 : FVec Ideal S16384x1024 .f32 := m ((c : Thread nD τ).loc main_arg0)
abbrev A1 : FVec Ideal S4x4x1024 .f32 := m ((c : Thread nD τ).loc main_arg1)
abbrev A2 : FVec Ideal S4x1024x5632 .f32 := m ((c : Thread nD τ).loc main_arg2)
abbrev A3 : FVec Ideal S4x2816x1024 .f32 := m ((c : Thread nD τ).loc main_arg3)

section Blocks

variable (t : Fin cfg0.N)

theorem x_blk (r : Fin 512) (d : Fin 1024) : iblk m c 0 t (ix2 r d) = A0 m c (ix2 (T t r) d) := by
  blk_point [iblk, V, idx t]

theorem g2_blk (d : Fin 1024) : iblk m c 1 t (ix2 0 d) = A1 m c (ix3 2 2 d) := by
  blk_point [iblk, V, idx t]

theorem wi_blk (k : Fin 1024) (n : Fin 5632) : iblk m c 2 t (ix3 0 k n) = A2 m c (ix3 2 k n) := by
  blk_point [iblk, V, idx t]

theorem wo_blk (n : Fin 2816) (d : Fin 1024) : iblk m c 3 t (ix3 0 n d) = A3 m c (ix3 2 n d) := by
  blk_point [iblk, V, idx t]

theorem g3_blk (d : Fin 1024) : iblk m c 4 t (ix2 0 d) = A1 m c (ix3 2 3 d) := by
  blk_point [iblk, V, idx t]

end Blocks

theorem final5 : (dats m 0 c).arrAt 5 cfg0.N = outArr (A0 m c) (A1 m c) (A2 m c) (A3 m c) := by
  refine (dats m 0 c).arrAt_eq_of_covers 5 _ (by decide +kernel) fun t hf y => ?_
  blk_simp
  rw [after0_5]
  unfold out0_5
  frame_out
  obtain ⟨r, d, rfl⟩ : ∃ (r : Fin 512) (d : Fin 1024), y = ix2 r d :=
    ⟨y 0, y 1, by funext a; fin_cases a <;> rfl⟩
  refine (body_at _ _ _ _ _ _ _ _ _ (fun k => A0 m c (ix2 (T t r) k)) (fun d => A1 m c (ix3 2 2 d))
    (fun d => A1 m c (ix3 2 3 d)) (fun k n => A2 m c (ix3 2 k n)) (fun n d => A3 m c (ix3 2 n d)) r (x_blk m c t r)
    (g2_blk m c t) (g3_blk m c t) ?_ ?_ ?_ ?_ ?_ ?_ d).trans ?_
  iterate 2 exact fun k n => by pointwise [wi_blk m c t]
  · exact fun k n => by pointwise [wo_blk m c t]
  · exact fun k n => by pointwise [wi_blk m c t]
  · intro k n
    pointwise [wi_blk m c t]
    exact congrArg (fun i => A2 m c (ix3 2 k i)) (Fin.ext (Nat.add_assoc 2816 1536 n.val))
  · exact fun k n => by pointwise [wo_blk m c t]
  · have e : ∀ G : FVec Ideal S16384x1024 .f32,
        G (((View.whole main_v14).slice (win0_5.rect t)).emb (ix2 r d)) = G (ix2 (T t r) d) := by
      intro G
      blk_point [idx t]
    exact Eq.trans rfl (e (outArr (A0 m c) (A1 m c) (A2 m c) (A3 m c))).symm

end Cert.FfnIdeal.Final

end
-- ==== Proof.FfnClaim.lean ====
module

public import proofs.«01_k».proof.Defs
public import proofs.«01_k».proof.Proof.FfnFinal
public import proofs.«01_k».proof.Proof.Gen.FfnRefIdeal.Run
public import proofs.«01_k».proof.Proof.Gen.FfnRefIdeal.Read
public import Idealize.ShloMosaic.Lib.Claim

@[expose] public section

set_option maxRecDepth 16384

noncomputable section

/-! # The feed-forward call computes what its reference computes -/

namespace Cert.Proof

open Idealize.ShloMosaic Idealize.SL.Sem

set_option maxHeartbeats 1600000 in
theorem ffn_algebraic [Cert.FfnIdeal.Facts] [Cert.FfnRefIdeal.Facts] : Cert.algebraic_FfnIdeal_FfnRefIdeal := by
  pair_intro
  · run_from Cert.FfnIdeal.Value.run_blocks m g
  · run_from Cert.FfnRefIdeal.Value.run m' g'
    obtain ⟨h0, h1, h2, h3⟩ := hagree c
    refine Eq.trans (Cert.FfnRefIdeal.Read.val_main_v40_eq m' c) ?_
    show Cert.FfnRefIdeal.Read.val_main_v40 (F := Ideal) (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) = _
    rw [h0, h1, h2, h3]
    exact (Cert.FfnRefIdeal.Rows.out_eq _ _ _ _).trans (Cert.FfnIdeal.Final.final5 m c).symm

theorem ffn_ref_frame [Cert.FfnRefIdeal.Facts] : Cert.quiescent_FfnRefIdeal := fun m g _ =>
  (θ_run _ _ _).mono (fun _ h => ⟨fun c => (h c).2, sem_eq_zero_of_no_sems rfl _⟩) (Cert.FfnRefIdeal.Value.run m g)

end Cert.Proof

end
-- ==== Proof.WoRefRows.lean ====
module

public import proofs.«01_k».proof.Proof.Rows
public import proofs.«01_k».proof.Proof.Gen.WoRefIdeal.Read

@[expose] public section

set_option maxRecDepth 16384

noncomputable section

/-! # The reference after the attention, row by row -/

namespace Cert.WoRefIdeal.Rows

open Idealize.ShloMosaic Idealize.ShloMosaic.TcCoe Idealize.SL.Sem Idealize.ShloMosaic.StableHlo
open Cert.WoRefIdeal Cert.WoRefIdeal.Gen Cert.WoRefIdeal.Read Cert.Rows

variable (x0 : FVec Ideal S4x4096x1024 .f32) (x1 : FVec Ideal S4x8x4096x128 .f32) (x2 : FVec Ideal S4x4x1024 .f32)
  (x3 : FVec Ideal S4x1024x5632 .f32) (x4 : FVec Ideal S4x2816x1024 .f32) (x5 : FVec Ideal S1x1024x1024 .f32)

/-- The heads' outputs through the output matrix: channel `k` lies in pair `k / 128` of heads. -/
def proj (o : Fin 8 → Fin 128 → EReal) (w : Fin 1024 → Fin 1024 → EReal) (d : Fin 1024) : EReal :=
  ∑ k : Fin 1024, o ⟨k.val / 128, by omega⟩ ⟨k.val % 128, by omega⟩ * w k d

theorem proj_at (b : Fin 4) (t : Fin 4096) (d : Fin 1024) :
    val_main_v3 (F := Ideal) x1 x5 (ix3 b t d)
      = proj (fun p e => x1 (ix4 b p t e)) (fun k e => x5 (ix3 0 k e)) d := by
  pointwise [val_main_v3, val_main_v2, val_main_v1, val_main_v0, proj]

/-- The attention half of the layer. -/
def xRow (b : Fin 4) (t : Fin 4096) (d : Fin 1024) : EReal :=
  x0 (ix3 b t d) + rms (proj (fun p e => x1 (ix4 b p t e)) (fun k e => x5 (ix3 0 k e))) (fun k => x2 (ix3 1 1 k)) d

theorem x_at (b : Fin 4) (t : Fin 4096) (d : Fin 1024) :
    val_main_v19 (F := Ideal) x0 x1 x2 x5 (ix3 b t d) = xRow x0 x1 x2 x5 b t d := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, proj_at, xRow, rms]

theorem y_at (b : Fin 4) (t : Fin 4096) (d : Fin 1024) :
    val_main_v34 (F := Ideal) x0 x1 x2 x5 (ix3 b t d) = rms (xRow x0 x1 x2 x5 b t) (fun k => x2 (ix3 1 2 k)) d := by
  pointwise [val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4, x_at, rms]

theorem ffn_at (b : Fin 4) (t : Fin 4096) (d : Fin 1024) :
    val_main_v44 (F := Ideal) x0 x1 x2 x3 x4 x5 (ix3 b t d)
      = ffnOut (rms (xRow x0 x1 x2 x5 b t) (fun k => x2 (ix3 1 2 k))) (fun k j => x3 (ix3 1 k j))
          (fun j e => x4 (ix3 1 j e)) d := by
  pointwise [val_main_v44, val_main_v43, val_main_v42, val_main_v41, val_main_v40, val_main_v39, val_main_v38, val_main_v37, val_main_v36, val_main_v35, val_main_call0_v0, val_main_call0_v1, val_main_call0_cst, val_main_call0_v2, val_main_call0_v3, val_main_call0_cst_0, val_main_call0_v4, val_main_call0_v5, y_at, ffnOut, ffnMid, ffnIn, gate, Ideal.logistic]

/-- The result as one array. -/
def outArr : FVec Ideal S4x4096x1024 .f32 := fun i =>
  ffn (xRow x0 x1 x2 x5 (i 0) (i 1)) (fun k => x2 (ix3 1 2 k)) (fun k j => x3 (ix3 1 k j)) (fun j e => x4 (ix3 1 j e))
    (fun k => x2 (ix3 1 3 k)) (i 2)

theorem out_at (b : Fin 4) (t : Fin 4096) (d : Fin 1024) :
    val_main_v60 (F := Ideal) x0 x1 x2 x3 x4 x5 (ix3 b t d) = outArr x0 x1 x2 x3 x4 x5 (ix3 b t d) := by
  show _ = ffn (xRow x0 x1 x2 x5 b t) (fun k => x2 (ix3 1 2 k)) (fun k j => x3 (ix3 1 k j)) (fun j e => x4 (ix3 1 j e))
    (fun k => x2 (ix3 1 3 k)) d
  pointwise [val_main_v60, val_main_v59, val_main_v58, val_main_v57, val_main_v56, val_main_v55, val_main_v54, val_main_v53, val_main_v52, val_main_v51, val_main_v50, val_main_v49, val_main_v48, val_main_v47, val_main_v46, val_main_v45, val_main_cst_5, val_main_cst_6, val_main_cst_7, x_at, ffn_at, ffn, rms]

theorem out_eq : val_main_v60 (F := Ideal) x0 x1 x2 x3 x4 x5 = outArr x0 x1 x2 x3 x4 x5 := by
  funext i
  rw [eq_ix3 i]
  exact out_at x0 x1 x2 x3 x4 x5 (i 0) (i 1) (i 2)

end Cert.WoRefIdeal.Rows

end
-- ==== Proof.WoFinal.lean ====
module

public import proofs.«01_k».proof.Proof.WoRefRows
public import proofs.«01_k».proof.Proof.Gen.WoIdeal.Value
public import Idealize.ShloMosaic.Lib.Pipeline.ValueKit

@[expose] public section

set_option maxRecDepth 16384

noncomputable section

/-! # What the call after the attention leaves in its result -/

namespace Cert.WoIdeal.Final

open Idealize.ShloMosaic Idealize.ShloMosaic.TcCoe Idealize.SL.Sem
open Cert.WoIdeal Cert.WoIdeal.Gen Cert.WoRefIdeal.Rows Cert.Rows

/-- The eight pairs of heads side by side, through the output matrix. -/
theorem pay1_at (o0 o1 o2 o3 o4 o5 o6 o7 : FVec Ideal S1x1x512x128 .f32) (w : FVec Ideal S1024x1024 .bf16) (r : Fin 512)
    (O : Fin 8 → Fin 128 → EReal) (W : Fin 1024 → Fin 1024 → EReal)
    (ho0 : ∀ e, o0 (ix4 0 0 r e) = O 0 e) (ho1 : ∀ e, o1 (ix4 0 0 r e) = O 1 e) (ho2 : ∀ e, o2 (ix4 0 0 r e) = O 2 e) (ho3 : ∀ e, o3 (ix4 0 0 r e) = O 3 e) (ho4 : ∀ e, o4 (ix4 0 0 r e) = O 4 e) (ho5 : ∀ e, o5 (ix4 0 0 r e) = O 5 e) (ho6 : ∀ e, o6 (ix4 0 0 r e) = O 6 e) (ho7 : ∀ e, o7 (ix4 0 0 r e) = O 7 e)
    (hw : ∀ k d, w (ix2 k d) = W k d) (d : Fin 1024) :
    k0_pay1 (F := Ideal) o0 o1 o2 o3 o4 o5 o6 o7 w (ix2 r d) = proj O W d := by
  simp only [k0_pay1]
  generalize hV : concatenate S512x1024 1 _ _ = V
  have hVa : ∀ k : Fin 1024, V (ix2 r k) = O ⟨k.val / 128, by omega⟩ ⟨k.val % 128, by omega⟩ := by
    intro k
    have step : ∀ (p : Fin 8) (e : Fin 128), 128 * p.val + e.val = k.val →
        O p e = O ⟨k.val / 128, by omega⟩ ⟨k.val % 128, by omega⟩ := by
      intro p e h
      rw [show (⟨k.val / 128, by omega⟩ : Fin 8) = p from Fin.ext (by show k.val / 128 = p.val; omega),
        show (⟨k.val % 128, by omega⟩ : Fin 128) = e from Fin.ext (by show k.val % 128 = e.val; omega)]
    rw [← hV]
    pointwise [ho0, ho1, ho2, ho3, ho4, ho5, ho6, ho7]
    by_cases c0 : (k : ℕ) < 128
    · rw [dif_pos c0]; exact step 0 _ (by simp)
    rw [dif_neg c0]
    by_cases c1 : (k : ℕ) - 128 < 128
    · rw [dif_pos c1]; exact step 1 _ (by simp; omega)
    rw [dif_neg c1]
    by_cases c2 : (k : ℕ) - 128 - 128 < 128
    · rw [dif_pos c2]; exact step 2 _ (by simp; omega)
    rw [dif_neg c2]
    by_cases c3 : (k : ℕ) - 128 - 128 - 128 < 128
    · rw [dif_pos c3]; exact step 3 _ (by simp; omega)
    rw [dif_neg c3]
    by_cases c4 : (k : ℕ) - 128 - 128 - 128 - 128 < 128
    · rw [dif_pos c4]; exact step 4 _ (by simp; omega)
    rw [dif_neg c4]
    by_cases c5 : (k : ℕ) - 128 - 128 - 128 - 128 - 128 < 128
    · rw [dif_pos c5]; exact step 5 _ (by simp; omega)
    rw [dif_neg c5]
    by_cases c6 : (k : ℕ) - 128 - 128 - 128 - 128 - 128 - 128 < 128
    · rw [dif_pos c6]; exact step 6 _ (by simp; omega)
    rw [dif_neg c6]
    exact step 7 _ (by simp; omega)
  pointwise [hVa, hw, proj]

theorem pay2_at (y : FVec Ideal S512x1024 .f32) (x : FVec Ideal S1x512x1024 .f32) (b : FVec Ideal S1x1024 .f32)
    (Y X g : Fin 1024 → EReal) (r : Fin 512) (hy : ∀ d, y (ix2 r d) = Y d) (hx : ∀ d, x (ix3 0 r d) = X d)
    (hb : ∀ k, b (ix2 0 k) = g k) (d : Fin 1024) :
    k0_pay2 (F := Ideal) y x b (ix2 r d) = X d + rms Y g d := by
  pointwise [k0_pay2, hy, hx, hb, rms]

theorem pay3_at (y : FVec Ideal S512x1024 .f32) (x : FVec Ideal S1x512x1024 .f32) (b b2 : FVec Ideal S1x1024 .f32)
    (Z g : Fin 1024 → EReal) (r : Fin 512) (hz : ∀ d, k0_pay2 (F := Ideal) y x b (ix2 r d) = Z d)
    (hb : ∀ k, b2 (ix2 0 k) = g k) (d : Fin 1024) :
    k0_pay3 (F := Ideal) y x b b2 (ix2 r d) = rms Z g d := by
  pointwise [k0_pay3, hz, hb, rms]

/-- The whole body at one row, from what the loaded blocks hold. -/
theorem body_at (o0 o1 o2 o3 o4 o5 o6 o7 : FVec Ideal S1x1x512x128 .f32) (w : FVec Ideal S1024x1024 .bf16)
    (x : FVec Ideal S1x512x1024 .f32) (b1 b2 b3 : FVec Ideal S1x1024 .f32)
    (w1 w2 : FVec Ideal S1x1024x1536 .bf16) (w3 : FVec Ideal S1x1536x1024 .bf16)
    (w4 w5 : FVec Ideal S1x1024x1280 .bf16) (w6 : FVec Ideal S1x1280x1024 .bf16)
    (O : Fin 8 → Fin 128 → EReal) (W : Fin 1024 → Fin 1024 → EReal)
    (X g1 g2 g3 : Fin 1024 → EReal) (wi : Fin 1024 → Fin 5632 → EReal) (wo : Fin 2816 → Fin 1024 → EReal) (r : Fin 512)
    (ho0 : ∀ e, o0 (ix4 0 0 r e) = O 0 e) (ho1 : ∀ e, o1 (ix4 0 0 r e) = O 1 e) (ho2 : ∀ e, o2 (ix4 0 0 r e) = O 2 e) (ho3 : ∀ e, o3 (ix4 0 0 r e) = O 3 e) (ho4 : ∀ e, o4 (ix4 0 0 r e) = O 4 e) (ho5 : ∀ e, o5 (ix4 0 0 r e) = O 5 e) (ho6 : ∀ e, o6 (ix4 0 0 r e) = O 6 e) (ho7 : ∀ e, o7 (ix4 0 0 r e) = O 7 e)
    (hw : ∀ k d, w (ix2 k d) = W k d)
    (hx : ∀ d, x (ix3 0 r d) = X d) (hb1 : ∀ d, b1 (ix2 0 d) = g1 d) (hb2 : ∀ d, b2 (ix2 0 d) = g2 d)
    (hb3 : ∀ d, b3 (ix2 0 d) = g3 d)
    (h1 : ∀ k (n : Fin 1536), w1 (ix3 0 k n) = wi k ⟨n.val, by omega⟩)
    (h2 : ∀ k (n : Fin 1536), w2 (ix3 0 k n) = wi k ⟨2816 + n.val, by omega⟩)
    (h3 : ∀ (n : Fin 1536) e, w3 (ix3 0 n e) = wo ⟨n.val, by omega⟩ e)
    (h4 : ∀ k (n : Fin 1280), w4 (ix3 0 k n) = wi k ⟨1536 + n.val, by omega⟩)
    (h5 : ∀ k (n : Fin 1280), w5 (ix3 0 k n) = wi k ⟨2816 + (1536 + n.val), by omega⟩)
    (h6 : ∀ (n : Fin 1280) e, w6 (ix3 0 n e) = wo ⟨1536 + n.val, by omega⟩ e) (d : Fin 1024) :
    k0_pay5 (F := Ideal) (k0_pay2 (k0_pay1 o0 o1 o2 o3 o4 o5 o6 o7 w) x b1) (k0_pay3 (k0_pay1 o0 o1 o2 o3 o4 o5 o6 o7 w) x b1 b2)
        (k0_pay4 (k0_pay1 o0 o1 o2 o3 o4 o5 o6 o7 w) x b1 b2 w1 w2) w3 w4 w5 w6 b3 (ix3 0 r d)
      = ffn (fun d => X d + rms (proj O W) g1 d) g2 wi wo g3 d := by
  have hm := pay1_at o0 o1 o2 o3 o4 o5 o6 o7 w r O W ho0 ho1 ho2 ho3 ho4 ho5 ho6 ho7 hw
  generalize k0_pay1 (F := Ideal) o0 o1 o2 o3 o4 o5 o6 o7 w = q at hm ⊢
  have hz := pay2_at q x b1 _ X g1 r hm hx hb1
  have hy := pay3_at q x b1 b2 _ g2 r hz hb2
  simp only [k0_pay5, k0_pay4]
  generalize k0_pay3 (F := Ideal) q x b1 b2 = y at hy ⊢
  generalize k0_pay2 (F := Ideal) q x b1 = z at hz ⊢
  generalize hV : addf (F := Ideal) (φ := .f32) (s := S512x1024) (matmul _ _ _ _ _) (matmul _ _ _ _ _) = V
  have hVa : ∀ e, V (ix2 r e) = ffnOut (rms (fun d => X d + rms (proj O W) g1 d) g2) wi wo e := by
    intro e
    rw [← hV]
    pointwise [hy, h1, h2, h3, h4, h5, h6]
    unfold ffnOut
    rw [sum_mid]
    rfl
  generalize hR : ffnOut (rms (fun d => X d + rms (proj O W) g1 d) g2) wi wo = R at hVa
  simp only [ffn]
  rw [hR]
  generalize rms (proj O W) g1 = Q at hz ⊢
  pointwise [hVa, hz, hb3, rms]

/-- Where every window's block lies at grid point `t`. -/
theorem idx : ∀ t : Fin cfg0.N, win0_0.index t = ![t.val / 8, t.val % 8, 0] ∧ win0_1.index t = ![t.val / 8, 0, t.val % 8, 0]
    ∧ win0_2.index t = ![0, 0] ∧ win0_3.index t = ![0, 0] ∧ win0_4.index t = ![0, 0] ∧ win0_5.index t = ![1, 0, 0]
    ∧ win0_6.index t = ![1, 0, 0] ∧ win0_7.index t = ![0, 0] ∧ win0_8.index t = ![t.val / 8, t.val % 8, 0]
    ∧ t.val / 8 < 4 :=
  (by decide +kernel : ∀ t : Fin grid0.N, _)

theorem lt_N (t : Fin cfg0.N) : t.val < 32 := t.isLt

/-- The batch of grid point `t`, and the row of the array that is row `r` of its block. -/
abbrev bat (t : Fin cfg0.N) : Fin 4 := ⟨t.val / 8, by have := lt_N t; omega⟩
abbrev T (t : Fin cfg0.N) (r : Fin 512) : Fin 4096 := ⟨512 * (t.val % 8) + r.val, by omega⟩

variable (m : (ℓ : Loc nD τ sig) → Buf (Elt Ideal) ℓ) (c : Dev nD)

abbrev A0 : FVec Ideal S4x4096x1024 .f32 := m ((c : Thread nD τ).loc main_arg0)
abbrev A1 : FVec Ideal S4x8x4096x128 .f32 := m ((c : Thread nD τ).loc main_arg1)
abbrev A2 : FVec Ideal S4x4x1024 .f32 := m ((c : Thread nD τ).loc main_arg2)
abbrev A3 : FVec Ideal S4x1024x5632 .f32 := m ((c : Thread nD τ).loc main_arg3)
abbrev A4 : FVec Ideal S4x2816x1024 .f32 := m ((c : Thread nD τ).loc main_arg4)
abbrev A5 : FVec Ideal S1x1024x1024 .f32 := m ((c : Thread nD τ).loc main_arg5)

section Blocks

variable (t : Fin cfg0.N)

theorem x_blk (r : Fin 512) (d : Fin 1024) : iblk m c 0 t (ix3 0 r d) = A0 m c (ix3 (bat t) (T t r) d) := by
  blk_point [iblk, V, idx t]

theorem o_blk (p : Fin 8) (r : Fin 512) (e : Fin 128) :
    iblk m c 1 t (ix4 0 p r e) = A1 m c (ix4 (bat t) p (T t r) e) := by
  blk_point [iblk, V, idx t]

theorem w_blk (k d : Fin 1024) : iblk m c 2 t (ix2 k d) = A5 m c (ix3 0 k d) := by
  blk_point [iblk, V, idx t]

theorem g1_blk (d : Fin 1024) : iblk m c 3 t (ix2 0 d) = A2 m c (ix3 1 1 d) := by
  blk_point [iblk, V, idx t]

theorem g2_blk (d : Fin 1024) : iblk m c 4 t (ix2 0 d) = A2 m c (ix3 1 2 d) := by
  blk_point [iblk, V, idx t]

theorem wi_blk (k : Fin 1024) (n : Fin 5632) : iblk m c 5 t (ix3 0 k n) = A3 m c (ix3 1 k n) := by
  blk_point [iblk, V, idx t]

theorem wo_blk (n : Fin 2816) (d : Fin 1024) : iblk m c 6 t (ix3 0 n d) = A4 m c (ix3 1 n d) := by
  blk_point [iblk, V, idx t]

theorem g3_blk (d : Fin 1024) : iblk m c 7 t (ix2 0 d) = A2 m c (ix3 1 3 d) := by
  blk_point [iblk, V, idx t]

end Blocks

/-- The result, as the reference has it. -/
abbrev out : FVec Ideal S4x4096x1024 .f32 := outArr (A0 m c) (A1 m c) (A2 m c) (A3 m c) (A4 m c) (A5 m c)

theorem final8 : (dats m 0 c).arrAt 8 cfg0.N = out m c := by
  refine (dats m 0 c).arrAt_eq_of_covers 8 _ (by decide +kernel) fun t hf y => ?_
  blk_simp
  rw [after0_8]
  unfold_out out0_8
  frame_out
  obtain ⟨r, d, rfl⟩ : ∃ (r : Fin 512) (d : Fin 1024), y = ix3 0 r d :=
    ⟨y 1, y 2, by funext a; fin_cases a <;> first | exact Subsingleton.elim (α := Fin 1) _ _ | rfl⟩
  refine (body_at _ _ _ _ _ _ _ _ _ _ _ _ _ _ _ _ _ _ _ (fun p e => A1 m c (ix4 (bat t) p (T t r) e))
    (fun k d => A5 m c (ix3 0 k d)) (fun k => A0 m c (ix3 (bat t) (T t r) k)) (fun d => A2 m c (ix3 1 1 d))
    (fun d => A2 m c (ix3 1 2 d)) (fun d => A2 m c (ix3 1 3 d)) (fun k n => A3 m c (ix3 1 k n))
    (fun n d => A4 m c (ix3 1 n d)) r ?_ ?_ ?_ ?_ ?_ ?_ ?_ ?_ (w_blk m c t) (x_blk m c t r)
    (g1_blk m c t) (g2_blk m c t) (g3_blk m c t) ?_ ?_ ?_ ?_ ?_ ?_ d).trans ?_
  iterate 8 exact fun e => by pointwise [o_blk m c t]
  iterate 2 exact fun k n => by pointwise [wi_blk m c t]
  · exact fun k n => by pointwise [wo_blk m c t]
  · exact fun k n => by pointwise [wi_blk m c t]
  · intro k n
    pointwise [wi_blk m c t]
    exact congrArg (fun i => A3 m c (ix3 1 k i)) (Fin.ext (Nat.add_assoc 2816 1536 n.val))
  · exact fun k n => by pointwise [wo_blk m c t]
  · have e : ∀ G : FVec Ideal S4x4096x1024 .f32,
        G (((View.whole main_v16).slice (win0_8.rect t)).emb (ix3 0 r d)) = G (ix3 (bat t) (T t r) d) := by
      intro G
      blk_point [idx t]
    exact Eq.trans rfl (e (out m c)).symm

end Cert.WoIdeal.Final

end
-- ==== Proof.WoClaim.lean ====
module

public import proofs.«01_k».proof.Defs
public import proofs.«01_k».proof.Proof.WoFinal
public import proofs.«01_k».proof.Proof.Gen.WoRefIdeal.Run
public import proofs.«01_k».proof.Proof.Gen.WoRefIdeal.Read
public import Idealize.ShloMosaic.Lib.Claim

@[expose] public section

set_option maxRecDepth 16384

noncomputable section

/-! # The call after the attention computes what its reference computes -/

namespace Cert.Proof

open Idealize.ShloMosaic Idealize.SL.Sem

set_option maxHeartbeats 1600000 in
theorem wo_algebraic [Cert.WoIdeal.Facts] [Cert.WoRefIdeal.Facts] : Cert.algebraic_WoIdeal_WoRefIdeal := by
  pair_intro
  · run_from Cert.WoIdeal.Value.run_blocks m g
  · run_from Cert.WoRefIdeal.Value.run m' g'
    obtain ⟨h0, h1, h2, h3, h4, h5⟩ := hagree c
    refine Eq.trans (Cert.WoRefIdeal.Read.val_main_v60_eq m' c) ?_
    show Cert.WoRefIdeal.Read.val_main_v60 (F := Ideal) (m' (c.tc.loc Cert.WoRefIdeal.main_arg0)) (m' (c.tc.loc Cert.WoRefIdeal.main_arg1)) (m' (c.tc.loc Cert.WoRefIdeal.main_arg2)) (m' (c.tc.loc Cert.WoRefIdeal.main_arg3)) (m' (c.tc.loc Cert.WoRefIdeal.main_arg4)) (m' (c.tc.loc Cert.WoRefIdeal.main_arg5)) = _
    rw [h0, h1, h2, h3, h4, h5]
    exact (Cert.WoRefIdeal.Rows.out_eq _ _ _ _ _ _).trans (Cert.WoIdeal.Final.final8 m c).symm

theorem wo_ref_frame [Cert.WoRefIdeal.Facts] : Cert.quiescent_WoRefIdeal := fun m g _ =>
  (θ_run _ _ _).mono (fun _ h => ⟨fun c => (h c).2, sem_eq_zero_of_no_sems rfl _⟩) (Cert.WoRefIdeal.Value.run m g)

end Cert.Proof

end
-- ==== Proof.QkvRefRows.lean ====
module

public import proofs.«01_k».proof.Proof.Rows
public import proofs.«01_k».proof.Proof.Gen.QkvRefIdeal.Read

@[expose] public section

set_option maxRecDepth 16384

noncomputable section

/-! # The reference of the projection to queries, keys and values, row by row -/

namespace Cert.QkvRefIdeal.Rows

open Idealize.ShloMosaic Idealize.ShloMosaic.TcCoe Idealize.SL.Sem Idealize.ShloMosaic.StableHlo
open Cert.QkvRefIdeal Cert.QkvRefIdeal.Gen Cert.QkvRefIdeal.Read Cert.Rows

variable (x0 : FVec Ideal S4x4096x1024 .f32) (x1 : FVec Ideal S4x4x1024 .f32) (x2 : FVec Ideal S1x1024x9216 .f32)

/-- The normed row times column `n` of the matrix. -/
def col (b : Fin 4) (t : Fin 4096) (n : Fin 9216) : EReal :=
  ∑ k, rms (fun k => x0 (ix3 b t k)) (fun k => x1 (ix3 1 0 k)) k * x2 (ix3 0 k n)

/-- What the queries are scaled by. -/
abbrev scale : EReal := Ideal.ofBits .f32 0x3E38AA3B#32

theorem y_at (b : Fin 4) (t : Fin 4096) (d : Fin 1024) :
    val_main_v14 (F := Ideal) x0 x1 (ix3 b t d) = rms (fun k => x0 (ix3 b t k)) (fun k => x1 (ix3 1 0 k)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

theorem col_at (b : Fin 4) (t : Fin 4096) (n : Fin 9216) :
    val_main_v16 (F := Ideal) x0 x1 x2 (ix3 b t n) = col x0 x1 x2 b t n := by
  pointwise [val_main_v16, val_main_v15, y_at, col]

theorem q_at (b : Fin 4) (t : Fin 4096) (e : Fin 1024) :
    val_main_v21 (F := Ideal) x0 x1 x2 (ix3 b t e) = col x0 x1 x2 b t ⟨e.val, by omega⟩ * scale := by
  pointwise [val_main_v21, val_main_v20, val_main_v19, val_main_v18, val_main_v17, val_main_cst_2, col_at]

theorem k_at (b : Fin 4) (t : Fin 4096) (e : Fin 1024) :
    val_main_v23 (F := Ideal) x0 x1 x2 (ix3 b t e) = col x0 x1 x2 b t ⟨1024 + e.val, by omega⟩ := by
  pointwise [val_main_v23, val_main_v22, val_main_v17, col_at]

theorem v_at (b : Fin 4) (t : Fin 4096) (e : Fin 1024) :
    val_main_v25 (F := Ideal) x0 x1 x2 (ix3 b t e) = col x0 x1 x2 b t ⟨2048 + e.val, by omega⟩ := by
  pointwise [val_main_v25, val_main_v24, val_main_v17, col_at]

/-- The first result as one array: scaled queries, keys, values. -/
def qkvArr : FVec Ideal S4x1x4096x3072 .bf16 := fun i =>
  if (i 3).val < 1024 then col x0 x1 x2 (i 0) (i 2) ⟨(i 3).val, by have := (i 3).isLt; change _ < 3072 at this; omega⟩ * scale
  else col x0 x1 x2 (i 0) (i 2) ⟨(i 3).val, by have := (i 3).isLt; change _ < 3072 at this; omega⟩

/-- The second result as one array: keys and values of the last 128 rows. -/
def newArr : FVec Ideal S4x128x2048 .f32 := fun i =>
  col x0 x1 x2 (i 0) ⟨3968 + (i 1).val, by have := (i 1).isLt; change _ < 128 at this; omega⟩
    ⟨1024 + (i 2).val, by have := (i 2).isLt; change _ < 2048 at this; omega⟩

theorem qkv_at (b : Fin 4) (t : Fin 4096) (n : Fin 3072) :
    val_main_v31 (F := Ideal) x0 x1 x2 (ix4 b 0 t n) = qkvArr x0 x1 x2 (ix4 b 0 t n) := by
  have step : ∀ (p : ℕ) (h : p < 9216), p = n.val → col x0 x1 x2 b t ⟨p, h⟩ = col x0 x1 x2 b t ⟨n.val, by omega⟩ := by
    intro p h e; subst e; rfl
  show _ = if n.val < 1024 then col x0 x1 x2 b t ⟨n.val, _⟩ * scale else col x0 x1 x2 b t ⟨n.val, _⟩
  pointwise [val_main_v31, val_main_v30, val_main_v29, q_at, k_at, v_at]
  by_cases c0 : (n : ℕ) < 1024
  · rw [dif_pos c0, if_pos c0]
  rw [dif_neg c0, if_neg c0]
  by_cases c1 : (n : ℕ) - 1024 < 1024
  · rw [dif_pos c1]; exact step _ _ (by omega)
  rw [dif_neg c1]
  exact step _ _ (by omega)

theorem new_at (b : Fin 4) (t : Fin 128) (n : Fin 2048) :
    val_main_v28 (F := Ideal) x0 x1 x2 (ix3 b t n) = newArr x0 x1 x2 (ix3 b t n) := by
  have step : ∀ (p : ℕ) (h : p < 9216), p = 1024 + n.val →
      col x0 x1 x2 b ⟨3968 + t.val, by omega⟩ ⟨p, h⟩ = col x0 x1 x2 b ⟨3968 + t.val, by omega⟩ ⟨1024 + n.val, by omega⟩ := by
    intro p h e; subst e; rfl
  show _ = col x0 x1 x2 b ⟨3968 + t.val, _⟩ ⟨1024 + n.val, _⟩
  pointwise [val_main_v28, val_main_v27, val_main_v26, k_at, v_at]
  by_cases c0 : (n : ℕ) < 1024
  · rw [dif_pos c0]
  rw [dif_neg c0]
  exact step _ _ (by omega)

theorem qkv_eq : val_main_v31 (F := Ideal) x0 x1 x2 = qkvArr x0 x1 x2 := by
  funext i
  have e : i = ix4 (i 0) 0 (i 2) (i 3) := by
    funext a; fin_cases a <;> first | exact Subsingleton.elim (α := Fin 1) _ _ | rfl
  rw [e]
  exact qkv_at x0 x1 x2 (i 0) (i 2) (i 3)

theorem new_eq : val_main_v28 (F := Ideal) x0 x1 x2 = newArr x0 x1 x2 := by
  funext i
  rw [eq_ix3 i]
  exact new_at x0 x1 x2 (i 0) (i 1) (i 2)

end Cert.QkvRefIdeal.Rows

end
-- ==== Proof.QkvFinal.lean ====
module

public import proofs.«01_k».proof.Proof.QkvRefRows
public import proofs.«01_k».proof.Proof.Gen.QkvIdeal.Value
public import Idealize.ShloMosaic.Lib.Pipeline.ValueKit

@[expose] public section

set_option maxRecDepth 16384

noncomputable section

/-! # The two results of the projection call -/

namespace Cert.QkvIdeal.Final

open Idealize.ShloMosaic Idealize.ShloMosaic.TcCoe Idealize.SL.Sem
open Cert.QkvIdeal Cert.QkvIdeal.Gen Cert.QkvRefIdeal.Rows Cert.Rows

section Payloads

variable (x : FVec Ideal S1x1024x1024 .f32) (b : FVec Ideal S1x1024 .f32) (w : FVec Ideal S1024x1024 .bf16)
  (X g : Fin 1024 → EReal) (W : Fin 1024 → Fin 1024 → EReal) (r : Fin 1024) (hx : ∀ k, x (ix3 0 r k) = X k)
  (hb : ∀ k, b (ix2 0 k) = g k) (hw : ∀ k d, w (ix2 k d) = W k d)

include hx hb

theorem pay5_at (d : Fin 1024) : k0_pay5 (F := Ideal) x b (ix2 r d) = rms X g d := by
  pointwise [k0_pay5, hx, hb, rms]

include hw

theorem pay6_at (d : Fin 1024) :
    k0_pay6 (F := Ideal) x b w (ix4 0 0 r d) = (∑ k, rms X g k * W k d) * scale := by
  pointwise [k0_pay6, pay5_at x b X g r hx hb, hw]

theorem pay7_at (d : Fin 1024) : k0_pay7 (F := Ideal) x b w (ix2 r d) = ∑ k, rms X g k * W k d := by
  pointwise [k0_pay7, pay5_at x b X g r hx hb, hw]

theorem pay1_at (d : Fin 1024) :
    k0_pay1 (F := Ideal) (k0_pay9 x b w) (ix4 0 0 r d) = ∑ k, rms X g k * W k d := by
  pointwise [k0_pay1, k0_pay9, pay7_at x b w X g W r hx hb hw]

theorem pay2_at (d : Fin 1024) : k0_pay2 (F := Ideal) (k0_pay5 x b) w (ix2 r d) = ∑ k, rms X g k * W k d := by
  pointwise [k0_pay2, pay5_at x b X g r hx hb, hw]

theorem pay4_at (d : Fin 1024) :
    k0_pay4 (F := Ideal) (k0_pay5 x b) w (ix4 0 0 r d) = ∑ k, rms X g k * W k d := by
  pointwise [k0_pay4, pay2_at x b w X g W r hx hb hw]

end Payloads

section Tails

variable (x : FVec Ideal S1x1024x1024 .f32) (b : FVec Ideal S1x1024 .f32) (w : FVec Ideal S1024x1024 .bf16)
  (X g : Fin 1024 → EReal) (W : Fin 1024 → Fin 1024 → EReal) (r : Fin 128)
  (hx : ∀ k, x (ix3 0 ⟨896 + r.val, by omega⟩ k) = X k)
  (hb : ∀ k, b (ix2 0 k) = g k) (hw : ∀ k d, w (ix2 k d) = W k d)

include hx hb hw

theorem pay8_at (d : Fin 1024) : k0_pay8 (F := Ideal) x b w (ix3 0 r d) = ∑ k, rms X g k * W k d := by
  pointwise [k0_pay8, pay7_at x b w X g W ⟨896 + r.val, by omega⟩ hx hb hw]

theorem pay3_at (d : Fin 1024) : k0_pay3 (F := Ideal) (k0_pay5 x b) w (ix3 0 r d) = ∑ k, rms X g k * W k d := by
  pointwise [k0_pay3, pay2_at x b w X g W ⟨896 + r.val, by omega⟩ hx hb hw]

end Tails

/-- Where every window's block lies at grid point `t`. -/
theorem idx : ∀ t : Fin cfg0.N, win0_0.index t = ![t.val / 4, t.val % 4, 0] ∧ win0_1.index t = ![0, 0]
    ∧ win0_2.index t = ![0, 0] ∧ win0_3.index t = ![t.val / 4, 0, t.val % 4, 0] ∧ win0_4.index t = ![t.val / 4, 0, 0]
    ∧ t.val / 4 < 4 :=
  (by decide +kernel : ∀ t : Fin grid0.N, _)

theorem lt_N (t : Fin cfg0.N) : t.val < 16 := t.isLt

/-- The batch of grid point `t`, and the row of the array that is row `r` of its block. -/
abbrev bat (t : Fin cfg0.N) : Fin 4 := ⟨t.val / 4, by have := lt_N t; omega⟩
abbrev T (t : Fin cfg0.N) (r : Fin 1024) : Fin 4096 := ⟨1024 * (t.val % 4) + r.val, by omega⟩

variable (m : (ℓ : Loc nD τ sig) → Buf (Elt Ideal) ℓ) (c : Dev nD)

abbrev A0 : FVec Ideal S4x4096x1024 .f32 := m ((c : Thread nD τ).loc main_arg0)
abbrev A1 : FVec Ideal S4x4x1024 .f32 := m ((c : Thread nD τ).loc main_arg1)
abbrev A2 : FVec Ideal S1x1024x9216 .f32 := m ((c : Thread nD τ).loc main_arg2)

section Blocks

variable (t : Fin cfg0.N)

theorem x_blk (r : Fin 1024) (d : Fin 1024) : iblk m c 0 t (ix3 0 r d) = A0 m c (ix3 (bat t) (T t r) d) := by
  blk_point [iblk, V, idx t]

theorem g_blk (d : Fin 1024) : iblk m c 1 t (ix2 0 d) = A1 m c (ix3 1 0 d) := by
  blk_point [iblk, V, idx t]

theorem w_blk (k : Fin 1024) (n : Fin 3072) : iblk m c 2 t (ix2 k n) = A2 m c (ix3 0 k ⟨n.val, by omega⟩) := by
  blk_point [iblk, V, idx t]

end Blocks

/-- The two results, as the reference has them. -/
abbrev out : FVec Ideal S4x1x4096x3072 .bf16 := qkvArr (A0 m c) (A1 m c) (A2 m c)
abbrev new : FVec Ideal S4x128x2048 .f32 := newArr (A0 m c) (A1 m c) (A2 m c)

/-- The second result's window writes its array back only after the last grid column. -/
theorem flush4 : ∀ t : Fin cfg0.N, (cfg0.win 4).flush t = true → t.val % 4 = 3 :=
  (by decide +kernel : ∀ t : Fin grid0.N, _)

theorem lt_col (o n : ℕ) (h : o + 1024 ≤ n) (d : Fin 1024) : o + d.val < n := by omega

/-- A load of 1024 columns of the staged matrix. -/
theorem w_ld (t : Fin cfg0.N) (o : ℕ) (ho : o + 1024 ≤ 3072) (inb) (k d : Fin 1024) :
    View.ld (iblk m c 2 t) (Rect.unit (s := S1024x3072) ![0, o] ![1024, 1024] inb) (ix2 k d)
      = A2 m c (ix3 0 k ⟨o + d.val, by omega⟩) := by
  pointwise [w_blk m c t]

/-- What a grid point leaves in the first result's block. -/
theorem canon3 (t : Fin cfg0.N) (r : Fin 1024) (n : Fin 3072) :
    View.canon (Val := Elt Ideal)
      [(⟨Rect.unit ![0, 0, 0, 2048] ![1, 1, 1024, 1024] inb_S1x1x1024x3072_S1x1x1024x1024_0_0_0_2048,
          k0_pay4 (k0_pay5 (iblk m c 0 t) (iblk m c 1 t))
            (View.ld (iblk m c 2 t) (Rect.unit ![0, 2048] ![1024, 1024] inb_S1024x3072_S1024x1024_0_2048))⟩
            : View.Piece (Elt Ideal) S1x1x1024x3072 .bf16),
        ⟨Rect.unit ![0, 0, 0, 1024] ![1, 1, 1024, 1024] inb_S1x1x1024x3072_S1x1x1024x1024_0_0_0_1024,
          k0_pay1
            (k0_pay9 (iblk m c 0 t) (iblk m c 1 t)
              (View.ld (iblk m c 2 t) (Rect.unit ![0, 1024] ![1024, 1024] inb_S1024x3072_S1024x1024_0_1024)))⟩,
        ⟨Rect.unit ![0, 0, 0, 0] ![1, 1, 1024, 1024] inb_S1x1x1024x3072_S1x1x1024x1024_0_0_0_0,
          k0_pay6 (iblk m c 0 t) (iblk m c 1 t)
            (View.ld (iblk m c 2 t) (Rect.unit ![0, 0] ![1024, 1024] inb_S1024x3072_S1024x1024_0_0))⟩]
      (ix4 0 0 r n) = out m c (ix4 (bat t) 0 (T t r) n) := by
  have hx : ∀ k, iblk m c 0 t (ix3 0 r k) = A0 m c (ix3 (bat t) (T t r) k) := x_blk m c t r
  show _ = if n.val < 1024 then col (A0 m c) (A1 m c) (A2 m c) (bat t) (T t r) ⟨n.val, _⟩ * scale
    else col (A0 m c) (A1 m c) (A2 m c) (bat t) (T t r) ⟨n.val, _⟩
  canon_tiles x e
  all_goals
    obtain ⟨r', d, rfl⟩ : ∃ (r' : Fin 1024) (d : Fin 1024), x = ix4 0 0 r' d :=
      ⟨x 2, x 3, by funext a; fin_cases a <;> first | exact Subsingleton.elim (α := Fin 1) _ _ | rfl⟩
    obtain rfl : r = r' := Fin.ext e2
  · obtain rfl : n = ⟨2048 + d.val, lt_col 2048 3072 (by decide) d⟩ := Fin.ext e3
    rw [if_neg (by show ¬2048 + d.val < 1024; omega)]
    exact pay4_at _ _ _ _ _ _ r hx (g_blk m c t) (w_ld m c t 2048 (by omega) _) d
  · obtain rfl : n = ⟨1024 + d.val, lt_col 1024 3072 (by decide) d⟩ := Fin.ext e3
    rw [if_neg (by simp)]
    exact pay1_at _ _ _ _ _ _ r hx (g_blk m c t) (w_ld m c t 1024 (by omega) _) d
  · obtain rfl : n = ⟨0 + d.val, lt_col 0 3072 (by decide) d⟩ := Fin.ext (e3.trans (Nat.zero_add _).symm)
    rw [if_pos (by simp)]
    exact pay6_at _ _ _ _ _ _ r hx (g_blk m c t) (w_ld m c t 0 (by omega) _) d

/-- What the last grid point of a batch leaves in the second result's block. -/
theorem canon4 (t : Fin cfg0.N) (h : t.val % 4 = 3) (r : Fin 128) (n : Fin 2048) :
    View.canon (Val := Elt Ideal)
      [(⟨Rect.unit ![0, 0, 1024] ![1, 128, 1024] inb_S1x128x2048_S1x128x1024_0_0_1024,
          k0_pay3 (k0_pay5 (iblk m c 0 t) (iblk m c 1 t))
            (View.ld (iblk m c 2 t) (Rect.unit ![0, 2048] ![1024, 1024] inb_S1024x3072_S1024x1024_0_2048))⟩
            : View.Piece (Elt Ideal) S1x128x2048 .f32),
        ⟨Rect.unit ![0, 0, 0] ![1, 128, 1024] inb_S1x128x2048_S1x128x1024_0_0_0,
          k0_pay8 (iblk m c 0 t) (iblk m c 1 t)
            (View.ld (iblk m c 2 t) (Rect.unit ![0, 1024] ![1024, 1024] inb_S1024x3072_S1024x1024_0_1024))⟩]
      (ix3 0 r n) = new m c (ix3 (bat t) r n) := by
  have hx : ∀ k, iblk m c 0 t (ix3 0 ⟨896 + r.val, by omega⟩ k) = A0 m c (ix3 (bat t) ⟨3968 + r.val, by omega⟩ k) := by
    intro k
    rw [x_blk m c t]
    exact congrArg (fun s => A0 m c (ix3 (bat t) s k)) (Fin.ext (by
      show 1024 * (t.val % 4) + (896 + r.val) = 3968 + r.val
      omega))
  show _ = col (A0 m c) (A1 m c) (A2 m c) (bat t) ⟨3968 + r.val, _⟩ ⟨1024 + n.val, _⟩
  canon_tiles x e
  all_goals
    obtain ⟨r', d, rfl⟩ : ∃ (r' : Fin 128) (d : Fin 1024), x = ix3 0 r' d :=
      ⟨x 1, x 2, by funext a; fin_cases a <;> first | exact Subsingleton.elim (α := Fin 1) _ _ | rfl⟩
    obtain rfl : r = r' := Fin.ext e1
  · obtain rfl : n = ⟨1024 + d.val, lt_col 1024 2048 (by decide) d⟩ := Fin.ext e2
    refine (pay3_at _ _ _ _ _ _ r hx (g_blk m c t) (w_ld m c t 2048 (by omega) _) d).trans ?_
    have a : ∀ p (hp : p < 9216), p = 2048 + d.val →
        col (A0 m c) (A1 m c) (A2 m c) (bat t) ⟨3968 + r.val, by omega⟩ ⟨2048 + d.val, by omega⟩
          = col (A0 m c) (A1 m c) (A2 m c) (bat t) ⟨3968 + r.val, by omega⟩ ⟨p, hp⟩ := by
      intro p hp ep; subst ep; rfl
    exact a _ _ (by show 1024 + (1024 + d.val) = _; omega)
  · obtain rfl : n = ⟨d.val, d.isLt.trans (by decide)⟩ := Fin.ext e2
    exact pay8_at _ _ _ _ _ _ r hx (g_blk m c t) (w_ld m c t 1024 (by omega) _) d

theorem final3 : (dats m 0 c).arrAt 3 cfg0.N = out m c := by
  refine (dats m 0 c).arrAt_eq_of_covers 3 _ (by decide +kernel) fun t hf y => ?_
  blk_simp
  rw [after0_3]
  obtain ⟨r, n, rfl⟩ : ∃ (r : Fin 1024) (n : Fin 3072), y = ix4 0 0 r n :=
    ⟨y 2, y 3, by funext a; fin_cases a <;> first | exact Subsingleton.elim (α := Fin 1) _ _ | rfl⟩
  have e : ∀ G : FVec Ideal S4x1x4096x3072 .bf16,
      G (((View.whole main_v5_0).slice (win0_3.rect t)).emb (ix4 0 0 r n)) = G (ix4 (bat t) 0 (T t r) n) := by
    intro G
    blk_point [idx t]
  refine Eq.trans ?_ (e (out m c)).symm
  by_cases h : t.val % 4 = 3
  · rw [outsAt0_B m c t h h]
    frame_out
    exact canon3 m c t r n
  · rw [outsAt0_A m c t h h]
    frame_out
    exact canon3 m c t r n

theorem final4 : (dats m 0 c).arrAt 4 cfg0.N = new m c := by
  refine (dats m 0 c).arrAt_eq_of_covers 4 _ (by decide +kernel) fun t hf y => ?_
  have h : t.val % 4 = 3 := flush4 t hf
  blk_simp
  rw [after0_4, outsAt0_B m c t h h]
  frame_out
  obtain ⟨r, n, rfl⟩ : ∃ (r : Fin 128) (n : Fin 2048), y = ix3 0 r n :=
    ⟨y 1, y 2, by funext a; fin_cases a <;> first | exact Subsingleton.elim (α := Fin 1) _ _ | rfl⟩
  have e : ∀ G : FVec Ideal S4x128x2048 .f32,
      G (((View.whole main_v5_1).slice (win0_4.rect t)).emb (ix3 0 r n)) = G (ix3 (bat t) r n) := by
    intro G
    blk_point [idx t]
  exact (canon4 m c t h r n).trans (e (new m c)).symm

end Cert.QkvIdeal.Final

end
-- ==== Proof.QkvClaim.lean ====
module

public import proofs.«01_k».proof.Defs
public import proofs.«01_k».proof.Proof.QkvFinal
public import proofs.«01_k».proof.Proof.Gen.QkvRefIdeal.Run
public import proofs.«01_k».proof.Proof.Gen.QkvRefIdeal.Read
public import Idealize.ShloMosaic.Lib.Claim

@[expose] public section

set_option maxRecDepth 16384

noncomputable section

/-! # The query, key and value call computes what its reference computes -/

namespace Cert.Proof

open Idealize.ShloMosaic Idealize.SL.Sem

set_option maxHeartbeats 400000 in
theorem qkv_algebraic [Cert.QkvIdeal.Facts] [Cert.QkvRefIdeal.Facts] : Cert.algebraic_QkvIdeal_QkvRefIdeal := by
  pair_intro
  · run_from Cert.QkvIdeal.Value.run_blocks m g
  · run_from Cert.QkvRefIdeal.Value.run m' g'
    · obtain ⟨h0, h1, h2⟩ := hagree c
      refine Eq.trans (Cert.QkvRefIdeal.Read.val_main_v31_eq m' c) ?_
      rw [h0, h1, h2]
      exact (Cert.QkvRefIdeal.Rows.qkv_eq _ _ _).trans (Cert.QkvIdeal.Final.final3 m c).symm
    · obtain ⟨-, -, h2⟩ := hagree c
      rw [h2]
      refine Eq.trans (Cert.QkvRefIdeal.Read.val_main_v28_eq (F := Ideal) (m (c.tc.loc Cert.QkvIdeal.main_arg0)) (m (c.tc.loc Cert.QkvIdeal.main_arg1)) (m (c.tc.loc Cert.QkvIdeal.main_arg2))) ?_
      exact (Cert.QkvRefIdeal.Rows.new_eq _ _ _).trans (Cert.QkvIdeal.Final.final4 m c).symm

theorem qkv_ref_frame [Cert.QkvRefIdeal.Facts] : Cert.quiescent_QkvRefIdeal := fun m g _ =>
  (θ_run _ _ _).mono (fun _ h => ⟨fun c => (h c).2.2, sem_eq_zero_of_no_sems rfl _⟩) (Cert.QkvRefIdeal.Value.run m g)

end Cert.Proof

end
-- ==== Proof.ConvRows.lean ====
module

public import proofs.«01_k».proof.Proof.Rows

@[expose] public section

set_option maxRecDepth 16384

noncomputable section

/-! # The convolution mixer's mathematics, one row at a time

Functions of plain families of numbers.  No program occurs here. -/

namespace Cert.Rows

open Idealize.ShloMosaic

/-- The first product of the mixer with its bias, at column `n`. -/
def gluIn (y : Fin 1024 → EReal) (w : Fin 1024 → Fin 2048 → EReal) (b : Fin 2048 → EReal) (n : Fin 2048) : EReal :=
  (∑ k, y k * w k n) + b n

/-- The gated linear unit: the left half times the logistic of the right half. -/
def glu (y : Fin 1024 → EReal) (w : Fin 1024 → Fin 2048 → EReal) (b : Fin 2048 → EReal) (d : Fin 1024) : EReal :=
  gluIn y w b ⟨d.val, by omega⟩ * Ideal.logistic (gluIn y w b ⟨1024 + d.val, by omega⟩)

/-- A column with 32 zero rows put in front of it, at row `n`. -/
def uz (u : Fin 4096 → EReal) (n : ℕ) : EReal := if c : 32 ≤ n ∧ n - 32 < 4096 then u ⟨n - 32, c.2⟩ else 0

/-- The sum of 31 numbers, from the first to the last. -/
def sum31 (f : Fin 31 → EReal) : EReal :=
  f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30

/-- The sum of 31 numbers and a bias, by phases of eight: the order the kernel adds them in. -/
def taps (f : Fin 31 → EReal) (b : EReal) : EReal :=
  b + f 6 + f 14 + f 22 + f 30 + f 7 + f 15 + f 23 + f 0 + f 8 + f 16 + f 24 + f 1 + f 9 + f 17 + f 25 + f 2 + f 10 + f 18 + f 26 + f 3 + f 11 + f 19 + f 27 + f 4 + f 12 + f 20 + f 28 + f 5 + f 13 + f 21 + f 29

/-- The order of the taps does not matter. -/
theorem taps_eq (f : Fin 31 → EReal) (b : EReal) : taps f b = sum31 f + b := by
  unfold taps sum31
  ac_rfl

/-- The depthwise convolution of one channel at row `t`: 31 taps, the last on row `t` itself, and the bias. -/
def conv31 (u : Fin 4096 → EReal) (w : Fin 31 → EReal) (b : EReal) (t : ℕ) : EReal :=
  sum31 (fun k => uz u (k.val + t + 2) * w k) + b

/-- The mean of a row. -/
def mean (v : Fin 1024 → EReal) : EReal := Ideal.div (∑ k, v k) (Ideal.ofBits .f32 0x44800000#32)

/-- The layer norm of the row `v` with gain `g` and bias `b`, at channel `d`. -/
def lnorm (v g b : Fin 1024 → EReal) (d : Fin 1024) : EReal :=
  (v d - mean v) * Ideal.rsqrt (mean (fun k => (v k - mean v) * (v k - mean v)) + Ideal.ofBits .f32 0x3727C5AC#32) * g d + b d

/-- `a · logistic a`. -/
def silu (a : EReal) : EReal := a * Ideal.logistic a

/-- The last product of the mixer with its bias, at channel `d`, from the convolved row `v`. -/
def convY (v g b : Fin 1024 → EReal) (w : Fin 1024 → Fin 1024 → EReal) (bo : Fin 1024 → EReal) (d : Fin 1024) : EReal :=
  (∑ k, silu (lnorm v g b k) * w k d) + bo d

/-- The mixer half of the layer: the row plus the norm of the mixer's output. -/
def convOut (x v g b : Fin 1024 → EReal) (w : Fin 1024 → Fin 1024 → EReal) (bo g1 : Fin 1024 → EReal) (d : Fin 1024) : EReal :=
  x d + rms (convY v g b w bo) g1 d

end Cert.Rows

end
-- ==== Proof.ConvLoop.lean ====
module

public import proofs.«01_k».proof.Proof.Gen.ConvIdeal.Loops
public import proofs.«01_k».proof.Proof.ConvRows
public import Idealize.ShloMosaic.Lib.Pipeline.ValueKit

@[expose] public section
set_option maxRecDepth 16384
noncomputable section

/-! # The convolution loop

The body of the convolution call runs its 31 taps in a loop of four trips.  A trip reads 160 rows of the gated scratch,
128 channels at a time, and stores 128 rows of the convolved scratch.  The taps are taken by phases of eight, a phase's
rows being turned once.  Whatever a trip stores, and so whatever is read back after the four trips, is the sum of the
taps at its row and channel. -/

namespace Cert.ConvIdeal.Loop
open Idealize.ShloMosaic Idealize.ShloMosaic.TcCoe Idealize.SL.Sem
open Cert.ConvIdeal Cert.ConvIdeal.Gen Cert.Rows

/-- Turning 160 rows by `s` reads `160 - s` rows on, where there are as many. -/
theorem turn (n s : ℕ) (h : n + 160 - s < 160) (h' : s < 160) : (n + 160 - s) % 160 = n + (160 - s) := by omega

/-- Where a stored tile lies. -/
theorem emb_0 (off : Fin 2 → ℕ) (h : ∀ a, off a + (![128, 128] : Fin 2 → ℕ) a ≤ S512x1024.size a) (r d : Fin 128) :
    ((Rect.unit (s := S512x1024) off ![128, 128] h).emb (ix2 r d) 0).val = off 0 + r.val := by
  show off 0 + 1 * r.val = _
  rw [Nat.one_mul]

theorem emb_1 (off : Fin 2 → ℕ) (h : ∀ a, off a + (![128, 128] : Fin 2 → ℕ) a ≤ S512x1024.size a) (r d : Fin 128) :
    ((Rect.unit (s := S512x1024) off ![128, 128] h).emb (ix2 r d) 1).val = off 1 + d.val := by
  show off 1 + 1 * d.val = _
  rw [Nat.one_mul]

/-- The convolution of a scratch column read from row `a + 2` on. -/
def G (U W : ℕ → ℕ → EReal) (B : ℕ → EReal) (a b : ℕ) : EReal := taps (fun j => U (a + 2 + j.val) b * W j.val b) (B b)

/-- What one trip stores. -/
theorem trip_at (𝒱 : Variants) (c : Dev nD) (bd : Option 𝒱.V) (i : grid0.Coords)
    arg2 harg2 arg3 harg3 arg4 harg4 arg5 harg5 arg6 harg6 arg7 harg7 arg8 harg8 arg9 harg9 arg10 harg10 arg11 harg11 arg12 harg12
    arg13 harg13 arg14 harg14 arg15 harg15 arg16 harg16 arg17 harg17 v36 X7 X8 X16 (k : Fin k0_t1_loop.trips)
    (U W : ℕ → ℕ → EReal) (B : ℕ → EReal)
    (h16 : ∀ off h (r : Fin 160) (d : Fin 128), View.readAt (Elt Ideal) arg16.view (Rect.unit (s := S544x1024) off ![160, 128] h).toLoadRect X16 (ix2 r d) = U (off 0 + r.val) (off 1 + d.val))
    (h7 : ∀ off h (d : Fin 128), View.readAt (Elt Ideal) arg7.view (Rect.unit (s := S32x1024) off ![1, 128] h).toLoadRect X7 (ix2 0 d) = W (off 0) (off 1 + d.val))
    (h8 : ∀ off h (d : Fin 128), View.readAt (Elt Ideal) arg8.view (Rect.unit (s := S1x1024) off ![1, 128] h).toLoadRect X8 (ix2 0 d) = B (off 1 + d.val))
    (p : View.Piece (Elt Ideal) S512x1024 .f32) :
    p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16 k →
    ∀ x : p.1.shape.Idx, p.2 x = G U W B (p.1.emb x 0).val (p.1.emb x 1).val := by
  unfold tripL_k0_t1 trip_k0_t1
  dsimp only
  simp only [List.mem_cons, List.not_mem_nil, or_false]
  sl_unfold_words
  rintro (rfl | rfl | rfl | rfl | rfl | rfl | rfl | rfl) <;> intro x
  all_goals
    obtain ⟨r, d, rfl⟩ : ∃ (r d : Fin 128), x = ix2 r d := ⟨x 0, x 1, by funext a; fin_cases a <;> rfl⟩
    dsimp only
    refine Eq.trans ?_ (congrArg₂ (G U W B) (emb_0 _ _ r d) (emb_1 _ _ r d)).symm
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, h16, h7, h8]
    generalize BitVec.toNat (Scalar.indexCast (Scalar.muli (Scf.iv 0#32 1#32 k.val) 128#32)) = n
    simp (disch := omega) only [turn, Nat.reduceSub, G, taps]
    simp only [Fin.val_zero, Fin.val_one, Fin.coe_ofNat_eq_mod, Nat.reduceMod]
    repeat' first
      | refine congrArg₂ (fun a b : EReal => a + b) ?_ ?_
      | refine congrArg₂ (fun a b : EReal => a * b) (congrFun (congrArg U ?_) _) rfl
      | omega
      | rfl

/-- What the trips before trip `n` store. -/
theorem trips_at (𝒱 : Variants) (c : Dev nD) (bd : Option 𝒱.V) (i : grid0.Coords)
    arg2 harg2 arg3 harg3 arg4 harg4 arg5 harg5 arg6 harg6 arg7 harg7 arg8 harg8 arg9 harg9 arg10 harg10 arg11 harg11 arg12 harg12
    arg13 harg13 arg14 harg14 arg15 harg15 arg16 harg16 arg17 harg17 v36 X7 X8 X16
    (U W : ℕ → ℕ → EReal) (B : ℕ → EReal)
    (h16 : ∀ off h (r : Fin 160) (d : Fin 128), View.readAt (Elt Ideal) arg16.view (Rect.unit (s := S544x1024) off ![160, 128] h).toLoadRect X16 (ix2 r d) = U (off 0 + r.val) (off 1 + d.val))
    (h7 : ∀ off h (d : Fin 128), View.readAt (Elt Ideal) arg7.view (Rect.unit (s := S32x1024) off ![1, 128] h).toLoadRect X7 (ix2 0 d) = W (off 0) (off 1 + d.val))
    (h8 : ∀ off h (d : Fin 128), View.readAt (Elt Ideal) arg8.view (Rect.unit (s := S1x1024) off ![1, 128] h).toLoadRect X8 (ix2 0 d) = B (off 1 + d.val)) :
    ∀ n : ℕ, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16 n,
    ∀ x : p.1.shape.Idx, p.2 x = G U W B (p.1.emb x 0).val (p.1.emb x 1).val
  | 0, _, p, hp => absurd hp List.not_mem_nil
  | n + 1, hn, p, hp => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16 ⟨n, hn⟩
    rcases List.mem_append.mp (e ▸ hp) with h | h
    · exact trip_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16 ⟨n, hn⟩ U W B h16 h7 h8 p h
    · exact trips_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16 U W B h16 h7 h8 n (Nat.le_of_succ_le hn) p h

end Cert.ConvIdeal.Loop

end
-- ==== Proof.ConvRead.lean ====
module

public import proofs.«01_k».proof.Proof.ConvLoop
public import Idealize.ShloMosaic.Lib.Ring

@[expose] public section
set_option maxRecDepth 16384
noncomputable section

/-! # The convolved scratch, read back after the loop -/

namespace Cert.ConvIdeal.Loop
open Idealize.ShloMosaic Idealize.ShloMosaic.TcCoe Idealize.SL.Sem
open Cert.ConvIdeal Cert.ConvIdeal.Gen Cert.Rows

/-- A two-dimensional array as a function of any two numbers. -/
def ext {a b : ℕ} (f : FVec Ideal ⟨2, ![a, b]⟩ .f32) (n d : ℕ) : EReal :=
  if h : n < a ∧ d < b then f (ix2 ⟨n, h.1⟩ ⟨d, h.2⟩) else 0

theorem ext_at {a b : ℕ} (f : FVec Ideal ⟨2, ![a, b]⟩ .f32) (n d : ℕ) (h : n < a) (h' : d < b) :
    ext f n d = f (ix2 ⟨n, h⟩ ⟨d, h'⟩) := dif_pos ⟨h, h'⟩

/-- A box of a two-dimensional array, read at an index of the box. -/
theorem box_at {a b p q : ℕ} (f : FVec Ideal ⟨2, ![a, b]⟩ .f32) (off : Fin 2 → ℕ)
    (h : ∀ k, off k + (![p, q] : Fin 2 → ℕ) k ≤ (⟨2, ![a, b]⟩ : Shape).size k) (r : Fin p) (d : Fin q) :
    f ((Rect.unit (s := ⟨2, ![a, b]⟩) off ![p, q] h).toLoadRect.idx (ix2 r d)) = ext f (off 0 + r.val) (off 1 + d.val) := by
  have h0 : off 0 + p ≤ a := h 0
  have h1 : off 1 + q ≤ b := h 1
  rw [ext_at f _ _ (by omega) (by omega)]
  congr 1
  funext k
  refine Fin.ext ?_
  revert k
  exact Fin.forall_fin_two.mpr ⟨by show off 0 + 1 * r.val = off 0 + r.val; omega, by show off 1 + 1 * d.val = off 1 + d.val; omega⟩

/-- The convolved scratch read back after the loop. -/
theorem conv_read (𝒱 : Variants) (c : Dev nD) (bd : Option 𝒱.V) (i : grid0.Coords)
    arg2 harg2 arg3 harg3 arg4 harg4 arg5 harg5 arg6 harg6 (arg7 : Memref sig .tc .vmem S32x1024 .f32) harg7 (arg8 : Memref sig .tc .vmem S1x1024 .f32) harg8 arg9 harg9 arg10 harg10 arg11 harg11 arg12 harg12
    arg13 harg13 arg14 harg14 arg15 harg15
    (arg16 : Memref sig .tc .vmem S544x1024 .f32) harg16 (arg17 : Memref sig .tc .vmem S512x1024 .f32) harg17 v36 X7 X8 X16 (r : Fin 512) (d : Fin 1024) :
    arg17.view.readCov (Val := Elt Ideal)
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16 (Scf.trips k0_t1_loop.lb k0_t1_loop.ub k0_t1_loop.st))
      (Rect.unit (s := S512x1024) ![0, 0] ![512, 1024] inb_S512x1024_S512x1024_0_0).toLoadRect (ix2 r d)
      = taps (fun k => arg16.view.read (Elt Ideal) X16 (ix2 ⟨r.val + 2 + k.val, by omega⟩ d)
          * arg7.view.read (Elt Ideal) X7 (ix2 ⟨k.val, by omega⟩ d)) (arg8.view.read (Elt Ideal) X8 (ix2 0 d)) := by
  have hp := trips_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16
    (ext (arg16.view.read (Elt Ideal) X16)) (ext (arg7.view.read (Elt Ideal) X7)) (ext (arg8.view.read (Elt Ideal) X8) 0)
    (fun off h r d => box_at (arg16.view.read (Elt Ideal) X16) off h r d)
    (fun off h d => box_at (arg7.view.read (Elt Ideal) X7) off h 0 d)
    (fun off h d => (box_at (arg8.view.read (Elt Ideal) X8) off h 0 d).trans
      (by have h0 : off 0 + 1 ≤ 1 := h 0
          rw [show off 0 + (0 : Fin 1).val = 0 by omega]))
    k0_t1_loop.trips le_rfl
  rw [View.readCov_eq_canon']
  have cover := View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v36 X7 X8 X16 (Scf.trips k0_t1_loop.lb k0_t1_loop.ub k0_t1_loop.st)) S128x128.size (by sl_kernel_rfl)
  refine (View.canon_apply_of_pieces (fun y => G (ext (arg16.view.read (Elt Ideal) X16)) (ext (arg7.view.read (Elt Ideal) X7))
    (ext (arg8.view.read (Elt Ideal) X8) 0) (y 0).val (y 1).val) _ hp _ (cover _)).trans ?_
  have e0 : ((Rect.unit (s := S512x1024) ![0, 0] ![512, 1024] inb_S512x1024_S512x1024_0_0).toLoadRect.idx (ix2 r d) 0).val = r.val := by
    show 0 + 1 * r.val = r.val
    omega
  have e1 : ((Rect.unit (s := S512x1024) ![0, 0] ![512, 1024] inb_S512x1024_S512x1024_0_0).toLoadRect.idx (ix2 r d) 1).val = d.val := by
    show 0 + 1 * d.val = d.val
    omega
  dsimp only
  rw [e0, e1, G, ext_at _ 0 d.val (by omega) d.isLt]
  congr 1
  funext k
  rw [ext_at _ _ d.val (by omega) d.isLt, ext_at _ k.val d.val (by omega) d.isLt]

end Cert.ConvIdeal.Loop

end
-- ==== Proof.ConvPoint.lean ====
module

public import proofs.«01_k».proof.Proof.ConvRows
public import proofs.«01_k».proof.Proof.Gen.ConvIdeal.Skeleton

@[expose] public section

set_option maxRecDepth 16384

noncomputable section

/-! # The convolution call's block, one row at a time

What the body of the call computes outside its loop, over plain vectors in the place of the loaded blocks. -/

namespace Cert.ConvIdeal.Point

open Idealize.ShloMosaic Idealize.ShloMosaic.TcCoe Idealize.SL.Sem
open Cert.ConvIdeal Cert.ConvIdeal.Gen Cert.Rows

theorem pay114_at (w : FVec Ideal S1x32x1024 .f32) (r : Fin 32) (d : Fin 1024) :
    k0_pay114 (F := Ideal) w (ix2 r d) = w (ix3 0 r d) := by
  pointwise [k0_pay114]

theorem pay115_at (w : FVec Ideal S32x1024 .f32) (r : Fin 32) (d : Fin 1024) :
    k0_pay115 (F := Ideal) w (ix2 r d) = w (ix2 r d) := by
  pointwise [k0_pay115]

theorem pay118_at (w : FVec Ideal S32x1024 .f32) (r : Fin 32) (d : Fin 1024) :
    k0_pay118 (F := Ideal) w (ix3 0 r d) = w (ix2 r d) := by
  pointwise [k0_pay118]

/-- The gated rows of the block. -/
theorem pay117_at (x : FVec Ideal S1x512x1024 .f32) (g : FVec Ideal S1x1024 .f32) (w : FVec Ideal S1024x2048 .bf16)
    (b : FVec Ideal S1x2048 .f32) (r : Fin 512) (d : Fin 1024) :
    k0_pay117 (F := Ideal) x g w b (ix2 r d)
      = glu (rms (fun k => x (ix3 0 r k)) (fun k => g (ix2 0 k))) (fun k n => w (ix2 k n)) (fun n => b (ix2 0 n)) d := by
  pointwise [k0_pay117, k0_pay116, glu, gluIn, rms, Ideal.logistic]

/-- The layer norm of the convolved rows, through `a · logistic a`. -/
theorem pay119_at (v : FVec Ideal S512x1024 .f32) (g b : FVec Ideal S1x1024 .f32) (r : Fin 512) (d : Fin 1024) :
    k0_pay119 (F := Ideal) v g b (ix2 r d)
      = silu (lnorm (fun k => v (ix2 r k)) (fun k => g (ix2 0 k)) (fun k => b (ix2 0 k)) d) := by
  pointwise [k0_pay119, silu, lnorm, mean, Ideal.logistic]

/-- The block's output rows, from the convolved rows. -/
theorem pay1_at (x : FVec Ideal S1x512x1024 .f32) (v : FVec Ideal S512x1024 .f32) (g b : FVec Ideal S1x1024 .f32)
    (w : FVec Ideal S1024x1024 .bf16) (bo g1 : FVec Ideal S1x1024 .f32) (r : Fin 512) (d : Fin 1024) :
    k0_pay1 (F := Ideal) (k0_pay116 x) (k0_pay119 v g b) (k0_pay120 w) bo g1 (ix3 0 r d)
      = convOut (fun k => x (ix3 0 r k)) (fun k => v (ix2 r k)) (fun k => g (ix2 0 k)) (fun k => b (ix2 0 k))
          (fun k n => w (ix2 k n)) (fun n => bo (ix2 0 n)) (fun k => g1 (ix2 0 k)) d := by
  pointwise [k0_pay1, k0_pay116, k0_pay120, pay119_at, convOut, convY, rms]

end Cert.ConvIdeal.Point

end
-- ==== Proof.ConvRefRows.lean ====
module

public import proofs.«01_k».proof.Proof.ConvRows
public import proofs.«01_k».proof.Proof.Gen.ConvRefIdeal.Read
@[expose] public section
set_option maxRecDepth 16384
noncomputable section

/-! # The convolution mixer's reference, one row at a time

Every stage of the reference read at one row of the sequence, as the row functions of `ConvRows`. -/

namespace Cert.ConvRefIdeal.Rows
open Idealize.ShloMosaic Idealize.ShloMosaic.TcCoe Idealize.SL.Sem Idealize.ShloMosaic.StableHlo
open Cert.ConvRefIdeal Cert.ConvRefIdeal.Gen Cert.ConvRefIdeal.Read Cert.Rows

variable (x0 : FVec Ideal S4x4096x1024 .f32) (x1 : FVec Ideal S4x4x1024 .f32) (x2 : FVec Ideal S1x1024x2048 .f32)
  (x3 : FVec Ideal S1x2048 .f32) (x4 : FVec Ideal S1x31x1024 .f32) (x5 x6 x7 : FVec Ideal S1x1024 .f32)
  (x8 : FVec Ideal S1x1024x1024 .f32) (x9 : FVec Ideal S1x1024 .f32)

/-- The gated rows the convolution runs over. -/
def uRow (b : Fin 4) (t : Fin 4096) : Fin 1024 → EReal :=
  glu (rms (fun k => x0 (ix3 b t k)) (fun k => x1 (ix3 2 0 k))) (fun k n => x2 (ix3 0 k n)) (fun n => x3 (ix2 0 n))

/-- The convolution of channel `d` at row `t`. -/
def cRow (b : Fin 4) (t : Fin 4096) (d : Fin 1024) : EReal :=
  conv31 (fun s => uRow x0 x1 x2 x3 b s d) (fun k => x4 (ix3 0 k d)) (x5 (ix2 0 d)) t.val

/-- The first result. -/
def outRow (b : Fin 4) (t : Fin 4096) (d : Fin 1024) : EReal :=
  convOut (fun k => x0 (ix3 b t k)) (cRow x0 x1 x2 x3 x4 x5 b t) (fun k => x6 (ix2 0 k)) (fun k => x7 (ix2 0 k))
    (fun k n => x8 (ix3 0 k n)) (fun n => x9 (ix2 0 n)) (fun k => x1 (ix3 2 1 k)) d

def outArr : FVec Ideal S4x4096x1024 .f32 := fun i => outRow x0 x1 x2 x3 x4 x5 x6 x7 x8 x9 (i 0) (i 1) (i 2)

/-- The second result: the last 32 gated rows. -/
def tailArr : FVec Ideal S4x32x1024 .f32 := fun i =>
  uRow x0 x1 x2 x3 (i 0) ⟨4064 + (i 1).val, by have h : (i 1).val < 32 := (i 1).isLt; omega⟩ (i 2)

theorem h_at (b : Fin 4) (t : Fin 4096) (d : Fin 1024) :
    val_main_v14 (F := Ideal) x0 x1 (ix3 b t d) = rms (fun k => x0 (ix3 b t k)) (fun k => x1 (ix3 2 0 k)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

theorem a_at (b : Fin 4) (t : Fin 4096) (n : Fin 2048) :
    val_main_v20 (F := Ideal) x0 x1 x2 x3 (ix3 b t n)
      = gluIn (rms (fun k => x0 (ix3 b t k)) (fun k => x1 (ix3 2 0 k))) (fun k n => x2 (ix3 0 k n)) (fun n => x3 (ix2 0 n)) n := by
  pointwise [val_main_v20, val_main_v19, val_main_v18, val_main_v17, val_main_v16, val_main_v15, h_at, gluIn]

theorem u_at (b : Fin 4) (t : Fin 4096) (d : Fin 1024) :
    val_main_v29 (F := Ideal) x0 x1 x2 x3 (ix3 b t d) = uRow x0 x1 x2 x3 b t d := by
  pointwise [val_main_v29, val_main_v28, val_main_v27, val_main_cst_3, val_main_v26, val_main_v25, val_main_cst_2, val_main_v24, val_main_v23, val_main_v22, val_main_v21, a_at, uRow, glu, Ideal.logistic]

theorem uz_at (b : Fin 4) (n : Fin 4126) (d : Fin 1024) :
    val_main_v31 (F := Ideal) x0 x1 x2 x3 (ix3 b n d) = uz (fun s => uRow x0 x1 x2 x3 b s d) (n.val + 2) := by
  pointwise [val_main_v31, uz]
  by_cases h : (n : ℕ) < 30
  · rw [dif_pos h, dif_neg (by omega)]
    pointwise [val_main_v30, val_main_cst_4]
  · rw [dif_neg h, dif_pos (by omega)]
    exact u_at x0 x1 x2 x3 b _ d

theorem taps_at (b : Fin 4) (t : Fin 4096) (d : Fin 1024) :
    val_main_v247 (F := Ideal) x0 x1 x2 x3 x4 (ix3 b t d)
      = sum31 (fun k => uz (fun s => uRow x0 x1 x2 x3 b s d) (k.val + t.val + 2) * x4 (ix3 0 k d)) := by
  pointwise [val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v37, val_main_v36, val_main_v35, val_main_v34, val_main_v33, val_main_v32, val_main_v43, val_main_v42, val_main_v41, val_main_v40, val_main_v39, val_main_v38, val_main_v49, val_main_v48, val_main_v47, val_main_v46, val_main_v45, val_main_v44, val_main_v55, val_main_v54, val_main_v53, val_main_v52, val_main_v51, val_main_v50, val_main_v61, val_main_v60, val_main_v59, val_main_v58, val_main_v57, val_main_v56, val_main_v67, val_main_v66, val_main_v65, val_main_v64, val_main_v63, val_main_v62, val_main_v73, val_main_v72, val_main_v71, val_main_v70, val_main_v69, val_main_v68, val_main_v79, val_main_v78, val_main_v77, val_main_v76, val_main_v75, val_main_v74, val_main_v85, val_main_v84, val_main_v83, val_main_v82, val_main_v81, val_main_v80, val_main_v91, val_main_v90, val_main_v89, val_main_v88, val_main_v87, val_main_v86, val_main_v97, val_main_v96, val_main_v95, val_main_v94, val_main_v93, val_main_v92, val_main_v103, val_main_v102, val_main_v101, val_main_v100, val_main_v99, val_main_v98, val_main_v109, val_main_v108, val_main_v107, val_main_v106, val_main_v105, val_main_v104, val_main_v115, val_main_v114, val_main_v113, val_main_v112, val_main_v111, val_main_v110, val_main_v121, val_main_v120, val_main_v119, val_main_v118, val_main_v117, val_main_v116, val_main_v127, val_main_v126, val_main_v125, val_main_v124, val_main_v123, val_main_v122, val_main_v133, val_main_v132, val_main_v131, val_main_v130, val_main_v129, val_main_v128, val_main_v139, val_main_v138, val_main_v137, val_main_v136, val_main_v135, val_main_v134, val_main_v145, val_main_v144, val_main_v143, val_main_v142, val_main_v141, val_main_v140, val_main_v151, val_main_v150, val_main_v149, val_main_v148, val_main_v147, val_main_v146, val_main_v157, val_main_v156, val_main_v155, val_main_v154, val_main_v153, val_main_v152, val_main_v163, val_main_v162, val_main_v161, val_main_v160, val_main_v159, val_main_v158, val_main_v169, val_main_v168, val_main_v167, val_main_v166, val_main_v165, val_main_v164, val_main_v175, val_main_v174, val_main_v173, val_main_v172, val_main_v171, val_main_v170, val_main_v181, val_main_v180, val_main_v179, val_main_v178, val_main_v177, val_main_v176, val_main_v187, val_main_v186, val_main_v185, val_main_v184, val_main_v183, val_main_v182, val_main_v193, val_main_v192, val_main_v191, val_main_v190, val_main_v189, val_main_v188, val_main_v199, val_main_v198, val_main_v197, val_main_v196, val_main_v195, val_main_v194, val_main_v205, val_main_v204, val_main_v203, val_main_v202, val_main_v201, val_main_v200, val_main_v211, val_main_v210, val_main_v209, val_main_v208, val_main_v207, val_main_v206, val_main_v217, val_main_v216, val_main_v215, val_main_v214, val_main_v213, val_main_v212, uz_at, sum31]
  try rfl

theorem c_at (b : Fin 4) (t : Fin 4096) (d : Fin 1024) :
    val_main_v251 (F := Ideal) x0 x1 x2 x3 x4 x5 (ix3 b t d) = cRow x0 x1 x2 x3 x4 x5 b t d := by
  pointwise [val_main_v251, val_main_v250, val_main_v249, val_main_v248, taps_at, cRow, conv31]

theorem z_at (b : Fin 4) (t : Fin 4096) (d : Fin 1024) :
    val_main_v277 (F := Ideal) x0 x1 x2 x3 x4 x5 x6 x7 (ix3 b t d)
      = lnorm (cRow x0 x1 x2 x3 x4 x5 b t) (fun k => x6 (ix2 0 k)) (fun k => x7 (ix2 0 k)) d := by
  pointwise [val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_cst_5, val_main_cst_6, val_main_cst_7, val_main_cst_8, val_main_cst_9, c_at, lnorm, mean]

theorem s_at (b : Fin 4) (t : Fin 4096) (d : Fin 1024) :
    val_main_v278 (F := Ideal) x0 x1 x2 x3 x4 x5 x6 x7 (ix3 b t d)
      = silu (lnorm (cRow x0 x1 x2 x3 x4 x5 b t) (fun k => x6 (ix2 0 k)) (fun k => x7 (ix2 0 k)) d) := by
  pointwise [val_main_v278, val_main_call0_v5, val_main_call0_v4, val_main_call0_cst_0, val_main_call0_v3, val_main_call0_v2, val_main_call0_cst, val_main_call0_v1, val_main_call0_v0, z_at, silu, Ideal.logistic]

theorem y_at (b : Fin 4) (t : Fin 4096) (d : Fin 1024) :
    val_main_v284 (F := Ideal) x0 x1 x2 x3 x4 x5 x6 x7 x8 x9 (ix3 b t d)
      = convY (cRow x0 x1 x2 x3 x4 x5 b t) (fun k => x6 (ix2 0 k)) (fun k => x7 (ix2 0 k))
          (fun k n => x8 (ix3 0 k n)) (fun n => x9 (ix2 0 n)) d := by
  pointwise [val_main_v284, val_main_v283, val_main_v282, val_main_v281, val_main_v280, val_main_v279, s_at, convY]

theorem o_at (b : Fin 4) (t : Fin 4096) (d : Fin 1024) :
    val_main_v300 (F := Ideal) x0 x1 x2 x3 x4 x5 x6 x7 x8 x9 (ix3 b t d) = outRow x0 x1 x2 x3 x4 x5 x6 x7 x8 x9 b t d := by
  pointwise [val_main_v300, val_main_v299, val_main_v298, val_main_v297, val_main_v296, val_main_v295, val_main_v294, val_main_v293, val_main_v292, val_main_v291, val_main_v290, val_main_v289, val_main_v288, val_main_v287, val_main_v286, val_main_v285, val_main_cst_10, val_main_cst_11, val_main_cst_12, y_at, outRow, convOut, rms]

/-- The reference's first result, as an array. -/
theorem out_eq : val_main_v300 (F := Ideal) x0 x1 x2 x3 x4 x5 x6 x7 x8 x9 = outArr x0 x1 x2 x3 x4 x5 x6 x7 x8 x9 := by
  funext i
  obtain ⟨b, t, d, rfl⟩ : ∃ (b : Fin 4) (t : Fin 4096) (d : Fin 1024), i = ix3 b t d := ⟨i 0, i 1, i 2, by funext a; fin_cases a <;> rfl⟩
  exact o_at x0 x1 x2 x3 x4 x5 x6 x7 x8 x9 b t d

/-- The reference's second result, as an array. -/
theorem tail_eq : val_main_v301 (F := Ideal) x0 x1 x2 x3 = tailArr x0 x1 x2 x3 := by
  funext i
  obtain ⟨b, t, d, rfl⟩ : ∃ (b : Fin 4) (t : Fin 32) (d : Fin 1024), i = ix3 b t d := ⟨i 0, i 1, i 2, by funext a; fin_cases a <;> rfl⟩
  pointwise [val_main_v301, u_at, tailArr]

end Cert.ConvRefIdeal.Rows

end
-- ==== Proof.ConvBlocks.lean ====
module

public import proofs.«01_k».proof.Proof.ConvRead
public import proofs.«01_k».proof.Proof.ConvPoint
public import proofs.«01_k».proof.Proof.ConvRefRows
public import proofs.«01_k».proof.Proof.Gen.ConvIdeal.Value
public import Idealize.ShloMosaic.Lib.Pipeline.ValueKit

@[expose] public section

set_option maxRecDepth 16384

noncomputable section

/-! # What the convolution call keeps from one grid point to the next

Every grid point reads its block of 512 rows and all the weights.  The gated scratch holds the block's gated rows and,
in front of them, the 32 rows that came before: zero rows in the first grid column, the last rows of the scratch of the
grid point before otherwise. -/

namespace Cert.ConvIdeal.Final

open Idealize.ShloMosaic Idealize.ShloMosaic.TcCoe Idealize.SL.Sem
open Cert.ConvIdeal Cert.ConvIdeal.Gen Cert.ConvIdeal.Point Cert.ConvIdeal.Loop Cert.ConvRefIdeal.Rows Cert.Rows

/-- What the scratch holds once both stores are made: row `n` of `G`, if the stores are the rows of `G`. -/
theorem scratch_at (p1 : FVec Ideal S512x1024 .f32) (p0 : FVec Ideal S32x1024 .f32) (G : ℕ → Fin 1024 → EReal)
    (h1 : ∀ (r : Fin 512) (d : Fin 1024), p1 (ix2 r d) = G (32 + r.val) d)
    (h0 : ∀ (r : Fin 32) (d : Fin 1024), p0 (ix2 r d) = G r.val d) (y : S544x1024.Idx) :
    View.canon [(⟨Rect.unit ![32, 0] ![512, 1024] inb_S544x1024_S512x1024_32_0, p1⟩ : View.Piece (Elt Ideal) S544x1024 .f32),
        ⟨Rect.unit ![0, 0] ![32, 1024] inb_S544x1024_S32x1024_0_0, p0⟩] y = G (y 0).val (y 1) := by
  have cover : ∃ p ∈ [(⟨Rect.unit ![32, 0] ![512, 1024] inb_S544x1024_S512x1024_32_0, p1⟩ : View.Piece (Elt Ideal) S544x1024 .f32),
        ⟨Rect.unit ![0, 0] ![32, 1024] inb_S544x1024_S32x1024_0_0, p0⟩], y ∈ p.1.set := by
    have hy0 : (y 0).val < 544 := (y 0).isLt
    have hy1 : (y 1).val < 1024 := (y 1).isLt
    by_cases hi : (y 0).val < 32
    · refine ⟨⟨Rect.unit ![0, 0] ![32, 1024] inb_S544x1024_S32x1024_0_0, p0⟩, List.mem_cons_of_mem _ List.mem_cons_self, ?_⟩
      have h : ∀ a : Fin 2, (![0, 0] : Fin 2 → ℕ) a ≤ (y a).val ∧ (y a).val < (![0, 0] : Fin 2 → ℕ) a + (![32, 1024] : Fin 2 → ℕ) a :=
        Fin.forall_fin_two.mpr ⟨⟨Nat.zero_le _, (Nat.zero_add 32).symm ▸ hi⟩, ⟨Nat.zero_le _, (Nat.zero_add 1024).symm ▸ hy1⟩⟩
      exact (Rect.mem_set_unit (inb := inb_S544x1024_S32x1024_0_0)).mpr h
    · refine ⟨⟨Rect.unit ![32, 0] ![512, 1024] inb_S544x1024_S512x1024_32_0, p1⟩, List.mem_cons_self, ?_⟩
      have h : ∀ a : Fin 2, (![32, 0] : Fin 2 → ℕ) a ≤ (y a).val ∧ (y a).val < (![32, 0] : Fin 2 → ℕ) a + (![512, 1024] : Fin 2 → ℕ) a :=
        Fin.forall_fin_two.mpr ⟨⟨Nat.le_of_not_lt hi, hy0⟩, ⟨Nat.zero_le _, (Nat.zero_add 1024).symm ▸ hy1⟩⟩
      exact (Rect.mem_set_unit (inb := inb_S544x1024_S512x1024_32_0)).mpr h
  canon_tiles x e using cover
  · obtain ⟨r, d, rfl⟩ : ∃ (r : Fin 512) (d : Fin 1024), x = ix2 r d := ⟨x 0, x 1, by funext a; fin_cases a <;> rfl⟩
    rw [h1, e0, show y 1 = d from Fin.ext e1]
    rfl
  · obtain ⟨r, d, rfl⟩ : ∃ (r : Fin 32) (d : Fin 1024), x = ix2 r d := ⟨x 0, x 1, by funext a; fin_cases a <;> rfl⟩
    rw [h0, e0, show y 1 = d from Fin.ext e1]
    rfl

/-- Where every window's block lies at grid point `t`. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 8, t.val % 8, 0]
    ∧ win0_13.index t = ![t.val / 8, 0, 0] ∧ t.val / 8 < 4 :=
  (by decide +kernel : ∀ t : Fin grid0.N, _)

theorem lt_N (t : Fin cfg0.N) : t.val < 32 := t.isLt

variable (m : (ℓ : Loc nD τ sig) → Buf (Elt Ideal) ℓ) (c : Dev nD)

/-- The batch of grid point `t`, and the sequence row that row `r` of its block is. -/
abbrev bat (t : Fin cfg0.N) : Fin 4 := ⟨t.val / 8, by have := lt_N t; omega⟩
abbrev row (t : Fin cfg0.N) (r : Fin 512) : Fin 4096 := ⟨512 * (t.val % 8) + r.val, by omega⟩

abbrev A0 : FVec Ideal S4x4096x1024 .f32 := m ((c : Thread nD τ).loc main_arg0)
abbrev A1 : FVec Ideal S4x4x1024 .f32 := m ((c : Thread nD τ).loc main_arg1)
abbrev A2 : FVec Ideal S1x1024x2048 .f32 := m ((c : Thread nD τ).loc main_arg2)
abbrev A3 : FVec Ideal S1x2048 .f32 := m ((c : Thread nD τ).loc main_arg3)
abbrev A4 : FVec Ideal S1x31x1024 .f32 := m ((c : Thread nD τ).loc main_arg4)
abbrev A5 : FVec Ideal S1x1024 .f32 := m ((c : Thread nD τ).loc main_arg5)
abbrev A6 : FVec Ideal S1x1024 .f32 := m ((c : Thread nD τ).loc main_arg6)
abbrev A7 : FVec Ideal S1x1024 .f32 := m ((c : Thread nD τ).loc main_arg7)
abbrev A8 : FVec Ideal S1x1024x1024 .f32 := m ((c : Thread nD τ).loc main_arg8)
abbrev A9 : FVec Ideal S1x1024 .f32 := m ((c : Thread nD τ).loc main_arg9)

/-- The two results, as the reference has them. -/
abbrev out : FVec Ideal S4x4096x1024 .f32 :=
  outArr (A0 m c) (A1 m c) (A2 m c) (A3 m c) (A4 m c) (A5 m c) (A6 m c) (A7 m c) (A8 m c) (A9 m c)
abbrev tail : FVec Ideal S4x32x1024 .f32 := tailArr (A0 m c) (A1 m c) (A2 m c) (A3 m c)

/-- The three stretches of host operations, one after the other. -/
theorem flat (σ : (b : DevRef τ sig) → b.ty.Contents (Elt Ideal)) :
    StableHlo.after [hostOps0, hostOps0_1, hostOps0_2].flatten σ
      = StableHlo.after hostOps0_2 (StableHlo.after hostOps0_1 (StableHlo.after hostOps0 σ)) := by
  simp only [List.flatten_cons, List.flatten_nil, StableHlo.after_append, StableHlo.after_nil, List.append_nil]

section Blocks

variable (t : Fin cfg0.N)

theorem x_blk (r : Fin 512) (d : Fin 1024) : iblk m c 0 t (ix3 0 r d) = A0 m c (ix3 (bat t) (row t r) d) := by
  blk_point [iblk, V, idx t]

theorem hist_blk (r : Fin 32) (d : Fin 1024) : iblk m c 1 t (ix3 0 r d) = (0 : EReal) := by
  blk_simp [iblk, V, idx t]
  rw [flat]
  entry_read
  pointwise

theorem g0_blk (d : Fin 1024) : iblk m c 2 t (ix2 0 d) = A1 m c (ix3 2 0 d) := by
  blk_simp [iblk, V, idx t]
  rw [flat]
  entry_read
  pointwise
  blk_point [idx t]

theorem win_blk (k : Fin 1024) (n : Fin 2048) : iblk m c 3 t (ix2 k n) = A2 m c (ix3 0 k n) := by
  blk_simp [iblk, V, idx t]
  rw [flat]
  entry_read
  pointwise
  blk_point [idx t]

theorem bin_blk (n : Fin 2048) : iblk m c 4 t (ix2 0 n) = A3 m c (ix2 0 n) := by
  blk_simp [iblk, V, idx t]
  rw [flat]
  entry_read
  pointwise
  blk_point [idx t]

theorem wdw_blk (k : Fin 31) (d : Fin 1024) (h : k.val < 32) : iblk m c 5 t (ix2 ⟨k.val, h⟩ d) = A4 m c (ix3 0 k d) := by
  blk_simp [iblk, V, idx t]
  rw [flat]
  entry_read
  have e : ∀ G : FVec Ideal S32x1024 .f32,
      G (((View.whole main_v5).slice (win0_5.rect t)).emb (ix2 ⟨k.val, h⟩ d)) = G (ix2 ⟨k.val, h⟩ d) := by
    intro G
    blk_point [idx t]
  refine (e _).trans ?_
  simp only [StableHlo.TRef.ofBuf, StableHlo.TRef.toBuf, cast_cast, cast_eq]
  pointwise

theorem bdw_blk (d : Fin 1024) : iblk m c 6 t (ix2 0 d) = A5 m c (ix2 0 d) := by
  blk_simp [iblk, V, idx t]
  rw [flat]
  entry_read
  pointwise
  blk_point [idx t]

theorem lng_blk (d : Fin 1024) : iblk m c 7 t (ix2 0 d) = A6 m c (ix2 0 d) := by
  blk_simp [iblk, V, idx t]
  rw [flat]
  entry_read
  pointwise
  blk_point [idx t]

theorem lnb_blk (d : Fin 1024) : iblk m c 8 t (ix2 0 d) = A7 m c (ix2 0 d) := by
  blk_simp [iblk, V, idx t]
  rw [flat]
  entry_read
  pointwise
  blk_point [idx t]

theorem wout_blk (k n : Fin 1024) : iblk m c 9 t (ix2 k n) = A8 m c (ix3 0 k n) := by
  blk_simp [iblk, V, idx t]
  rw [flat]
  entry_read
  pointwise
  blk_point [idx t]

theorem bout_blk (d : Fin 1024) : iblk m c 10 t (ix2 0 d) = A9 m c (ix2 0 d) := by
  blk_simp [iblk, V, idx t]
  rw [flat]
  entry_read
  pointwise
  blk_point [idx t]

theorem g1_blk (d : Fin 1024) : iblk m c 11 t (ix2 0 d) = A1 m c (ix3 2 1 d) := by
  blk_simp [iblk, V, idx t]
  rw [flat]
  entry_read
  pointwise
  blk_point [idx t]

end Blocks

/-- The gated scratch of grid point `t`, whose column in the grid is `j`: row `n` of the zero-fronted column, `512 j`
rows on. -/
def scr (t : ℕ) (h : t < 32) (n : ℕ) (d : Fin 1024) : EReal :=
  uz (fun s => uRow (A0 m c) (A1 m c) (A2 m c) (A3 m c) ⟨t / 8, by omega⟩ s d) (512 * (t % 8) + n)

theorem scr_new (t : Fin cfg0.N) (r : Fin 512) (d : Fin 1024) :
    k0_pay117 (F := Ideal) (iblk m c 0 t) (iblk m c 2 t) (iblk m c 3 t) (iblk m c 4 t) (ix2 r d)
      = scr m c t.val (lt_N t) (32 + r.val) d := by
  rw [pay117_at]
  simp only [x_blk, g0_blk, win_blk, bin_blk, scr, uz]
  rw [dif_pos ⟨by omega, by omega⟩]
  simp only [uRow]
  congr 2
  funext k
  exact congrArg (fun s => A0 m c (ix3 (bat t) s k)) (Fin.ext (by show 512 * (t.val % 8) + r.val = _; simp only []; omega))

/-- The rows in front of the block, in the first grid column. -/
theorem scr_first (t : Fin cfg0.N) (h : t.val % 8 = 0) (r : Fin 32) (d : Fin 1024) :
    k0_pay114 (F := Ideal) (iblk m c 1 t) (ix2 r d) = scr m c t.val (lt_N t) r.val d := by
  rw [pay114_at, hist_blk]
  simp only [scr, uz]
  rw [dif_neg (by omega)]

/-- The last rows of a grid point's scratch are the rows in front of the next grid point's. -/
theorem scr_next (n : ℕ) (h : n + 1 < 32) (h0 : ¬(n + 1) % 8 = 0) (r : ℕ) (d : Fin 1024) :
    scr m c n (Nat.lt_of_succ_lt h) (512 + r) d = scr m c (n + 1) h r d := by
  simp only [scr]
  rw [show 512 * (n % 8) + (512 + r) = 512 * ((n + 1) % 8) + r by omega]
  congr 1
  funext s
  exact congrArg (fun b => uRow (A0 m c) (A1 m c) (A2 m c) (A3 m c) b s d) (Fin.ext (by show n / 8 = (n + 1) / 8; omega))

/-- The 32 rows that the next grid point takes over, read from a scratch that is known. -/
theorem carry_at (X : FVec Ideal S544x1024 .f32) (r : Fin 32) (d : Fin 1024) :
    k0_pay115 (F := Ideal) (View.ld (Val := Elt Ideal) (S := S544x1024) (e' := .f32) X (Rect.unit ![512, 0] ![32, 1024] inb_S544x1024_S32x1024_512_0)) (ix2 r d)
      = X (ix2 ⟨512 + r.val, by omega⟩ d) := by
  rw [pay115_at]
  exact (box_at (p := 32) (q := 1024) X ![512, 0] inb_S544x1024_S32x1024_512_0 r d).trans
    ((congrArg (ext X (512 + r.val)) (Nat.zero_add d.val)).trans (ext_at X _ _ (by omega) d.isLt))

end Cert.ConvIdeal.Final

end
-- ==== Proof.ConvFinal.lean ====
module

public import proofs.«01_k».proof.Proof.ConvBlocks
public import proofs.«01_k».proof.Proof.Gen.ConvIdeal.Value
public import Idealize.ShloMosaic.Lib.Pipeline.ValueKit

@[expose] public section

set_option maxRecDepth 16384

noncomputable section

/-! # The two results of the convolution call -/

namespace Cert.ConvIdeal.Final

open Idealize.ShloMosaic Idealize.ShloMosaic.TcCoe Idealize.SL.Sem
open Cert.ConvIdeal Cert.ConvIdeal.Gen Cert.ConvIdeal.Point Cert.ConvIdeal.Loop Cert.ConvRefIdeal.Rows Cert.Rows

variable (m : (ℓ : Loc nD τ sig) → Buf (Elt Ideal) ℓ) (c : Dev nD)

/-- The gated scratch after every grid point. -/
theorem scr_state : ∀ (n : ℕ) (hn : n < cfg0.N) (y : S544x1024.Idx),
    (outsAt0 m c n hn).2.2 y = scr m c n (lt_N ⟨n, hn⟩) (y 0).val (y 1) := by
  intro n
  induction n with
  | zero =>
    intro hn y
    rw [outsAt0_A m c ⟨0, hn⟩ rfl (by show ¬1 ≤ 0 % 8; omega)]
    dsimp only
    frame_out
    exact scratch_at _ _ (scr m c 0 (lt_N ⟨0, hn⟩)) (scr_new m c ⟨0, hn⟩) (scr_first m c ⟨0, hn⟩ rfl) y
  | succ n ih =>
    intro hn y
    by_cases h : (n + 1) % 8 = 0
    · rw [outsAt0_A m c ⟨n + 1, hn⟩ h (by show ¬1 ≤ (n + 1) % 8; omega)]
      dsimp only
      frame_out
      exact scratch_at _ _ (scr m c (n + 1) (lt_N ⟨n + 1, hn⟩)) (scr_new m c ⟨n + 1, hn⟩) (scr_first m c ⟨n + 1, hn⟩ h) y
    · rw [outsAt0_B m c ⟨n + 1, hn⟩ h (by show 1 ≤ (n + 1) % 8; omega)]
      dsimp only
      frame_out
      refine scratch_at _ _ (scr m c (n + 1) (lt_N ⟨n + 1, hn⟩)) (scr_new m c ⟨n + 1, hn⟩) (fun r d => ?_) y
      rw [carry_at]
      refine (congrFun (Memref.IsWhole.read_unread (m := scM0_0) _ _) _).trans ?_
      exact (ih (Nat.lt_of_succ_lt hn) _).trans (scr_next m c n (lt_N ⟨n + 1, hn⟩) h r.val d)

/-- The rows in front of the block, past the first grid column. -/
theorem scr_later (t : Fin cfg0.N) (h : ¬t.val % 8 = 0) (hp : t.val - 1 < cfg0.N) (X : FVec Ideal S544x1024 .f32)
    (hX : X = (outsAt0 m c (t.val - 1) hp).2.2) (r : Fin 32) (d : Fin 1024) :
    k0_pay115 (F := Ideal) (View.ld (Val := Elt Ideal) (S := S544x1024) (e' := .f32) X
      (Rect.unit ![512, 0] ![32, 1024] inb_S544x1024_S32x1024_512_0)) (ix2 r d) = scr m c t.val (lt_N t) r.val d := by
  subst hX
  obtain ⟨n, hn⟩ := t
  cases n with
  | zero => exact absurd rfl h
  | succ n =>
    rw [carry_at]
    exact (scr_state m c n hp _).trans (scr_next m c n (lt_N ⟨n + 1, hn⟩) h r.val d)

/-- The convolved rows, from a scratch that holds the gated rows. -/
theorem conv_at (t : Fin cfg0.N) (U : FVec Ideal S544x1024 .f32) (W : FVec Ideal S32x1024 .f32) (B : FVec Ideal S1x1024 .f32)
    (hU : ∀ y, U y = scr m c t.val (lt_N t) (y 0).val (y 1))
    (hW : W = iblk m c 5 t) (hB : B = iblk m c 6 t) (r : Fin 512) (d : Fin 1024) :
    taps (fun k => U (ix2 ⟨r.val + 2 + k.val, by omega⟩ d) * W (ix2 ⟨k.val, by omega⟩ d)) (B (ix2 0 d))
      = cRow (A0 m c) (A1 m c) (A2 m c) (A3 m c) (A4 m c) (A5 m c) (bat t) (row t r) d := by
  rw [taps_eq, hW, hB, bdw_blk]
  unfold cRow conv31
  congr 2
  funext k
  rw [hU, wdw_blk]
  refine congrArg (· * _) ?_
  show uz _ (512 * (t.val % 8) + (r.val + 2 + k.val)) = uz _ (k.val + (512 * (t.val % 8) + r.val) + 2)
  rw [show 512 * (t.val % 8) + (r.val + 2 + k.val) = k.val + (512 * (t.val % 8) + r.val) + 2 by omega]
  rfl

/-- The block's output rows. -/
theorem out_at (t : Fin cfg0.N) (v : FVec Ideal S512x1024 .f32)
    (hv : ∀ (r : Fin 512) (d : Fin 1024), v (ix2 r d)
      = cRow (A0 m c) (A1 m c) (A2 m c) (A3 m c) (A4 m c) (A5 m c) (bat t) (row t r) d) (r : Fin 512) (d : Fin 1024) :
    k0_pay1 (F := Ideal) (k0_pay116 (iblk m c 0 t)) (k0_pay119 v (iblk m c 7 t) (iblk m c 8 t)) (k0_pay120 (iblk m c 9 t))
      (iblk m c 10 t) (iblk m c 11 t) (ix3 0 r d) = out m c (ix3 (bat t) (row t r) d) := by
  rw [pay1_at]
  simp only [x_blk, lng_blk, lnb_blk, wout_blk, bout_blk, g1_blk, hv]
  rfl

/-- Both stores of the gated scratch, whatever was put in front of the block. -/
theorem scr_both (t : Fin cfg0.N) (p1 : FVec Ideal S512x1024 .f32) (p0 : FVec Ideal S32x1024 .f32)
    (h1 : p1 = k0_pay117 (iblk m c 0 t) (iblk m c 2 t) (iblk m c 3 t) (iblk m c 4 t))
    (h0 : ∀ (r : Fin 32) (d : Fin 1024), p0 (ix2 r d) = scr m c t.val (lt_N t) r.val d) (y : S544x1024.Idx) :
    (View.whole cc0_scratch0).read (Elt Ideal) ((View.whole cc0_scratch0).writes (Elt Ideal) (View.whole cc0_scratch0).junk
        [(⟨Rect.unit ![32, 0] ![512, 1024] inb_S544x1024_S512x1024_32_0, p1⟩ : View.Piece (Elt Ideal) S544x1024 .f32),
          ⟨Rect.unit ![0, 0] ![32, 1024] inb_S544x1024_S32x1024_0_0, p0⟩]) y = scr m c t.val (lt_N t) (y 0).val (y 1) := by
  subst h1
  exact (View.read_writes_junk_apply_eq_canon (View.whole cc0_scratch0) y _).trans (scratch_at _ _ _ (scr_new m c t) h0 y)

theorem out_blk (t : Fin cfg0.N) (r : Fin 512) (d : Fin 1024) :
    (outsAt0 m c t.val t.isLt).1 (ix3 0 r d) = out m c (ix3 (bat t) (row t r) d) := by
  by_cases h : t.val % 8 = 0
  · rw [outsAt0_A m c t h (by omega)]
    dsimp only
    frame_out
    refine out_at m c t _ (fun r d => ?_) r d
    refine (conv_read Variants.none c none (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ (ms0_13 t) _ scM0_0 _ scM0_1 _ _ _ _ _ r d).trans ?_
    exact conv_at m c t _ _ _ (scr_both m c t _ _ rfl (scr_first m c t h))
      (Memref.IsWhole.read_unread (m := ms0_5 t) _ _) (Memref.IsWhole.read_unread (m := ms0_6 t) _ _) r d
  · rw [outsAt0_B m c t h (by omega)]
    dsimp only
    frame_out
    refine out_at m c t _ (fun r d => ?_) r d
    refine (conv_read Variants.none c none (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ (ms0_13 t) _ scM0_0 _ scM0_1 _ _ _ _ _ r d).trans ?_
    refine conv_at m c t _ _ _ (scr_both m c t _ _ rfl fun r d => ?_)
      (Memref.IsWhole.read_unread (m := ms0_5 t) _ _) (Memref.IsWhole.read_unread (m := ms0_6 t) _ _) r d
    exact scr_later m c t h _ _ (Memref.IsWhole.read_unread (m := scM0_0) _ _) r d

/-- The second result's rows in the last grid column. -/
theorem tail_scr (t : Fin cfg0.N) (ht : t.val % 8 = 7) (r : Fin 32) (d : Fin 1024) :
    scr m c t.val (lt_N t) (512 + r.val) d = tail m c (ix3 (bat t) r d) := by
  simp only [scr, uz, ht]
  rw [dif_pos ⟨by omega, by omega⟩]
  exact congrArg (fun s => uRow (A0 m c) (A1 m c) (A2 m c) (A3 m c) (bat t) s d)
    (Fin.ext (by show 512 * 7 + (512 + r.val) - 32 = 4064 + r.val; omega))

theorem tail_blk (t : Fin cfg0.N) (ht : t.val % 8 = 7) (r : Fin 32) (d : Fin 1024) :
    (outsAt0 m c t.val t.isLt).2.1 (ix3 0 r d) = tail m c (ix3 (bat t) r d) := by
  rw [outsAt0_B m c t (by omega) (by omega)]
  dsimp only
  frame_out
  rw [pay118_at, View.readCov_eq_canon']
  refine (scratch_at _ _ _ (scr_new m c t) (fun r d => ?_) _).trans ?_
  · exact scr_later m c t (by omega) _ _ (Memref.IsWhole.read_unread (m := scM0_0) _ _) r d
  · refine Eq.trans ?_ (tail_scr m c t ht r d)
    have e0 : ((Rect.unit (s := S544x1024) ![512, 0] ![32, 1024] inb_S544x1024_S32x1024_512_0).toLoadRect.idx (ix2 r d) 0).val
        = 512 + r.val := by
      show 512 + 1 * r.val = 512 + r.val
      omega
    have e1 : (Rect.unit (s := S544x1024) ![512, 0] ![32, 1024] inb_S544x1024_S32x1024_512_0).toLoadRect.idx (ix2 r d) 1 = d :=
      Fin.ext (by show 0 + 1 * d.val = d.val; omega)
    rw [e0, e1]

/-- The second result's window writes its array back only after the last grid column. -/
theorem flush13 : ∀ t : Fin cfg0.N, (cfg0.win 13).flush t = true → t.val % 8 = 7 :=
  (by decide +kernel : ∀ t : Fin grid0.N, _)

theorem final12 : (dats m 0 c).arrAt 12 cfg0.N = out m c := by
  refine (dats m 0 c).arrAt_eq_of_covers 12 _ (by decide +kernel) fun t hf y => ?_
  blk_simp
  rw [after0_12]
  obtain ⟨r, d, rfl⟩ : ∃ (r : Fin 512) (d : Fin 1024), y = ix3 0 r d :=
    ⟨y 1, y 2, by funext a; fin_cases a <;> first | exact Subsingleton.elim (α := Fin 1) _ _ | rfl⟩
  have e : ∀ G : FVec Ideal S4x4096x1024 .f32,
      G (((View.whole main_v23_0).slice (win0_12.rect t)).emb (ix3 0 r d)) = G (ix3 (bat t) (row t r) d) := by
    intro G
    blk_point [idx t]
  exact (out_blk m c t r d).trans (e (out m c)).symm

theorem final13 : (dats m 0 c).arrAt 13 cfg0.N = tail m c := by
  refine (dats m 0 c).arrAt_eq_of_covers 13 _ (by decide +kernel) fun t hf y => ?_
  blk_simp
  rw [after0_13]
  obtain ⟨r, d, rfl⟩ : ∃ (r : Fin 32) (d : Fin 1024), y = ix3 0 r d :=
    ⟨y 1, y 2, by funext a; fin_cases a <;> first | exact Subsingleton.elim (α := Fin 1) _ _ | rfl⟩
  have e : ∀ G : FVec Ideal S4x32x1024 .f32,
      G (((View.whole main_v23_1).slice (win0_13.rect t)).emb (ix3 0 r d)) = G (ix3 (bat t) r d) := by
    intro G
    blk_point [idx t]
  exact (tail_blk m c t (flush13 t hf) r d).trans (e (tail m c)).symm

end Cert.ConvIdeal.Final

end
-- ==== Proof.ConvClaim.lean ====
module

public import proofs.«01_k».proof.Defs
public import proofs.«01_k».proof.Proof.ConvFinal
public import proofs.«01_k».proof.Proof.Gen.ConvRefIdeal.Run
public import proofs.«01_k».proof.Proof.Gen.ConvRefIdeal.Read
public import Idealize.ShloMosaic.Lib.Claim

@[expose] public section

set_option maxRecDepth 16384

noncomputable section

/-! # The convolution call computes what its reference computes -/

namespace Cert.Proof

open Idealize.ShloMosaic Idealize.SL.Sem

set_option maxHeartbeats 1600000 in
theorem conv_algebraic [Cert.ConvIdeal.Facts] [Cert.ConvRefIdeal.Facts] : Cert.algebraic_ConvIdeal_ConvRefIdeal := by
  pair_intro
  · run_from Cert.ConvIdeal.Value.run_blocks m g
  · run_from Cert.ConvRefIdeal.Value.run m' g'
    · obtain ⟨h0, h1, h2, h3, h4, h5, h6, h7, h8, h9⟩ := hagree c
      rw [← h0, ← h1]
      refine Eq.trans (Cert.ConvRefIdeal.Read.val_main_v300_eq (StableHlo.launchContents m' c)) ?_
      show Cert.ConvRefIdeal.Read.val_main_v300 (F := Ideal) (m' (c.tc.loc Cert.ConvRefIdeal.main_arg0)) (m' (c.tc.loc Cert.ConvRefIdeal.main_arg1)) (m' (c.tc.loc Cert.ConvRefIdeal.main_arg2)) (m' (c.tc.loc Cert.ConvRefIdeal.main_arg3)) (m' (c.tc.loc Cert.ConvRefIdeal.main_arg4)) (m' (c.tc.loc Cert.ConvRefIdeal.main_arg5)) (m' (c.tc.loc Cert.ConvRefIdeal.main_arg6)) (m' (c.tc.loc Cert.ConvRefIdeal.main_arg7)) (m' (c.tc.loc Cert.ConvRefIdeal.main_arg8)) (m' (c.tc.loc Cert.ConvRefIdeal.main_arg9)) = _
      rw [h0, h1, h2, h3, h4, h5, h6, h7, h8, h9]
      exact (Cert.ConvRefIdeal.Rows.out_eq _ _ _ _ _ _ _ _ _ _).trans (Cert.ConvIdeal.Final.final12 m c).symm
    · obtain ⟨h0, h1, h2, h3, -⟩ := hagree c
      refine Eq.trans (Cert.ConvRefIdeal.Read.val_main_v301_eq (StableHlo.launchContents m' c)) ?_
      show Cert.ConvRefIdeal.Read.val_main_v301 (F := Ideal) (m' (c.tc.loc Cert.ConvRefIdeal.main_arg0)) (m' (c.tc.loc Cert.ConvRefIdeal.main_arg1)) (m' (c.tc.loc Cert.ConvRefIdeal.main_arg2)) (m' (c.tc.loc Cert.ConvRefIdeal.main_arg3)) = _
      rw [h0, h1, h2, h3]
      exact (Cert.ConvRefIdeal.Rows.tail_eq _ _ _ _).trans (Cert.ConvIdeal.Final.final13 m c).symm

theorem conv_ref_frame [Cert.ConvRefIdeal.Facts] : Cert.quiescent_ConvRefIdeal := fun m g _ =>
  (θ_run _ _ _).mono (fun _ h => ⟨fun c => (h c).2.2, sem_eq_zero_of_no_sems rfl _⟩) (Cert.ConvRefIdeal.Value.run m g)

end Cert.Proof

end
-- ==== Proof.Qkv4RefRows.lean ====
module

public import proofs.«01_k».proof.Proof.QkvRefRows
public import proofs.«01_k».proof.Proof.Gen.Qkv4RefIdeal.Read

@[expose] public section

set_option maxRecDepth 16384

noncomputable section

/-! # The reference of the projection for the head group of dilation 4, row by row -/

namespace Cert.Qkv4RefIdeal.Rows

open Idealize.ShloMosaic Idealize.ShloMosaic.TcCoe Idealize.SL.Sem Idealize.ShloMosaic.StableHlo
open Cert.Qkv4RefIdeal Cert.Qkv4RefIdeal.Gen Cert.Qkv4RefIdeal.Read Cert.QkvRefIdeal.Rows Cert.Rows

variable (x0 : FVec Ideal S4x4096x1024 .f32) (x1 : FVec Ideal S4x4x1024 .f32) (x2 : FVec Ideal S1x1024x9216 .f32)

theorem z_at (b : Fin 4) (t : Fin 4096) (d : Fin 1024) :
    val_main_v14 (F := Ideal) x0 x1 (ix3 b t d) = rms (fun k => x0 (ix3 b t k)) (fun k => x1 (ix3 1 0 k)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

theorem col4_at (b : Fin 4) (t : Fin 4096) (n : Fin 9216) :
    val_main_v16 (F := Ideal) x0 x1 x2 (ix3 b t n) = col x0 x1 x2 b t n := by
  pointwise [val_main_v16, val_main_v15, z_at, col]

theorem q4_at (b : Fin 4) (t : Fin 4096) (e : Fin 1024) :
    val_main_v21 (F := Ideal) x0 x1 x2 (ix3 b t e) = col x0 x1 x2 b t ⟨3072 + e.val, by omega⟩ * scale := by
  pointwise [val_main_v21, val_main_v20, val_main_v19, val_main_v18, val_main_v17, val_main_cst_2, col4_at]

theorem k4_at (b : Fin 4) (t : Fin 4096) (e : Fin 1024) :
    val_main_v23 (F := Ideal) x0 x1 x2 (ix3 b t e) = col x0 x1 x2 b t ⟨4096 + e.val, by omega⟩ := by
  pointwise [val_main_v23, val_main_v22, val_main_v17, col4_at]

theorem v4_at (b : Fin 4) (t : Fin 4096) (e : Fin 1024) :
    val_main_v25 (F := Ideal) x0 x1 x2 (ix3 b t e) = col x0 x1 x2 b t ⟨5120 + e.val, by omega⟩ := by
  pointwise [val_main_v25, val_main_v24, val_main_v17, col4_at]

/-- The first result as one array: scaled queries, keys, values, the rows regrouped by their remainder modulo four. -/
def qkv4Arr : FVec Ideal S4x4x1024x3072 .bf16 := fun i =>
  have ha : (i 1).val < 4 := (i 1).isLt
  have hr : (i 2).val < 1024 := (i 2).isLt
  have hn : (i 3).val < 3072 := (i 3).isLt
  if (i 3).val < 1024 then col x0 x1 x2 (i 0) ⟨4 * (i 2).val + (i 1).val, by omega⟩ ⟨3072 + (i 3).val, by omega⟩ * scale
  else col x0 x1 x2 (i 0) ⟨4 * (i 2).val + (i 1).val, by omega⟩ ⟨3072 + (i 3).val, by omega⟩

/-- The second result as one array: keys and values of the last 512 rows. -/
def new4Arr : FVec Ideal S4x512x2048 .f32 := fun i =>
  col x0 x1 x2 (i 0) ⟨3584 + (i 1).val, by have h : (i 1).val < 512 := (i 1).isLt; omega⟩
    ⟨4096 + (i 2).val, by have h : (i 2).val < 2048 := (i 2).isLt; omega⟩

theorem qkv4_at (b a : Fin 4) (r : Fin 1024) (n : Fin 3072) :
    val_main_v32 (F := Ideal) x0 x1 x2 (ix4 b a r n) = qkv4Arr x0 x1 x2 (ix4 b a r n) := by
  have step : ∀ (p : ℕ) (h : p < 9216) (t : ℕ) (ht : t < 4096), p = 3072 + n.val → t = 4 * r.val + a.val →
      col x0 x1 x2 b ⟨t, ht⟩ ⟨p, h⟩ = col x0 x1 x2 b ⟨4 * r.val + a.val, by omega⟩ ⟨3072 + n.val, by omega⟩ := by
    intro p h t ht e e'; subst e; subst e'; rfl
  show _ = if n.val < 1024 then col x0 x1 x2 b ⟨4 * r.val + a.val, _⟩ ⟨3072 + n.val, _⟩ * scale
    else col x0 x1 x2 b ⟨4 * r.val + a.val, _⟩ ⟨3072 + n.val, _⟩
  pointwise [val_main_v32, val_main_v31, val_main_v30, val_main_v29, q4_at, k4_at, v4_at]
  by_cases c0 : (n : ℕ) < 1024
  · rw [dif_pos c0, if_pos c0]
    exact congrArg (· * scale) (step _ _ _ _ (by omega) (by omega))
  rw [dif_neg c0, if_neg c0]
  by_cases c1 : (n : ℕ) - 1024 < 1024
  · rw [dif_pos c1]; exact step _ _ _ _ (by omega) (by omega)
  rw [dif_neg c1]
  exact step _ _ _ _ (by omega) (by omega)

theorem new4_at (b : Fin 4) (t : Fin 512) (n : Fin 2048) :
    val_main_v28 (F := Ideal) x0 x1 x2 (ix3 b t n) = new4Arr x0 x1 x2 (ix3 b t n) := by
  have step : ∀ (p : ℕ) (h : p < 9216), p = 4096 + n.val →
      col x0 x1 x2 b ⟨3584 + t.val, by omega⟩ ⟨p, h⟩ = col x0 x1 x2 b ⟨3584 + t.val, by omega⟩ ⟨4096 + n.val, by omega⟩ := by
    intro p h e; subst e; rfl
  show _ = col x0 x1 x2 b ⟨3584 + t.val, _⟩ ⟨4096 + n.val, _⟩
  pointwise [val_main_v28, val_main_v27, val_main_v26, k4_at, v4_at]
  by_cases c0 : (n : ℕ) < 1024
  · rw [dif_pos c0]
  rw [dif_neg c0]
  exact step _ _ (by omega)

theorem qkv4_eq : val_main_v32 (F := Ideal) x0 x1 x2 = qkv4Arr x0 x1 x2 := by
  funext i
  have e : i = ix4 (i 0) (i 1) (i 2) (i 3) := by
    funext a; fin_cases a <;> rfl
  rw [e]
  exact qkv4_at x0 x1 x2 (i 0) (i 1) (i 2) (i 3)

theorem new4_eq : val_main_v28 (F := Ideal) x0 x1 x2 = new4Arr x0 x1 x2 := by
  funext i
  rw [eq_ix3 i]
  exact new4_at x0 x1 x2 (i 0) (i 1) (i 2)

end Cert.Qkv4RefIdeal.Rows

end
-- ==== Proof.Qkv4Regroup.lean ====
module

public import proofs.«01_k».proof.Proof.Gen.Qkv4Ideal.Value
public import Idealize.ShloMosaic.Lib.Pipeline.ValueKit
public import Idealize.ShloMosaic.Lib.Pipeline.ReadBack
public import Idealize.ShloMosaic.Lib.Ring

@[expose] public section

set_option maxRecDepth 16384

noncomputable section

/-! # Rows regrouped by their remainder modulo four, through eight slabs of columns -/

namespace Cert.Qkv4Ideal.Final

open Idealize.ShloMosaic Idealize.ShloMosaic.TcCoe Idealize.SL.Sem
open Cert.Qkv4Ideal Cert.Qkv4Ideal.Gen

/-- 128 columns of an array, from column `o` on, as one slab. -/
def slab (o : ℕ) (h : S1024x1024.Slices ![0, o] S1024x128) (R : FVec Ideal S1024x1024 .f32) : FVec Ideal S1x1024x128 .f32 :=
  shapeCast S1x1024x128 (extractStridedSlice S1024x128 ![0, o] R h) shapeCasts_S1024x128_S1x1024x128

/-- The eight slabs, one on top of the other. -/
def slabs (R : FVec Ideal S1024x1024 .f32) : FVec Ideal S8x1024x128 .f32 := fun y =>
  R (ix2 (y 1) ⟨128 * (y 0).val + (y 2).val, by
    have h0 : (y 0).val < 8 := (y 0).isLt
    have h2 : (y 2).val < 128 := (y 2).isLt
    omega⟩)

theorem slab_at (o k : ℕ) (ho : o = 128 * k) (hk : k < 8) (h : S1024x1024.Slices ![0, o] S1024x128) (R : FVec Ideal S1024x1024 .f32)
    (inb : ∀ a, (![k, 0, 0] : Fin 3 → ℕ) a + (![1, 1024, 128] : Fin 3 → ℕ) a ≤ S8x1024x128.size a) (x : S1x1024x128.Idx) :
    slab o h R x = slabs R ((Rect.unit (s := S8x1024x128) ![k, 0, 0] ![1, 1024, 128] inb).emb x) := by
  subst ho
  obtain ⟨r, e, rfl⟩ : ∃ (r : Fin 1024) (e : Fin 128), x = ix3 0 r e :=
    ⟨x 1, x 2, by funext a; fin_cases a <;> first | exact Subsingleton.elim (α := Fin 1) _ _ | rfl⟩
  have e1 : slab (128 * k) h R (ix3 0 r e) = R (ix2 r ⟨128 * k + e.val, by omega⟩) := by
    pointwise [slab]
  rw [e1]
  refine congrArg R ?_
  funext a
  fin_cases a
  · exact Fin.ext (by show r.val = 0 + 1 * r.val; omega)
  · exact Fin.ext (by show 128 * k + e.val = 128 * (k + 1 * 0) + (0 + 1 * e.val); omega)

/-- The eight stores of the slabs, over any earlier stores. -/
abbrev stores (R : FVec Ideal S1024x1024 .f32) : List (View.Piece (Elt Ideal) S8x1024x128 .f32) :=
  [⟨Rect.unit ![7, 0, 0] ![1, 1024, 128] inb_S8x1024x128_S1x1024x128_7_0_0, slab 896 (by decide) R⟩,
          ⟨Rect.unit ![6, 0, 0] ![1, 1024, 128] inb_S8x1024x128_S1x1024x128_6_0_0, slab 768 (by decide) R⟩,
          ⟨Rect.unit ![5, 0, 0] ![1, 1024, 128] inb_S8x1024x128_S1x1024x128_5_0_0, slab 640 (by decide) R⟩,
          ⟨Rect.unit ![4, 0, 0] ![1, 1024, 128] inb_S8x1024x128_S1x1024x128_4_0_0, slab 512 (by decide) R⟩,
          ⟨Rect.unit ![3, 0, 0] ![1, 1024, 128] inb_S8x1024x128_S1x1024x128_3_0_0, slab 384 (by decide) R⟩,
          ⟨Rect.unit ![2, 0, 0] ![1, 1024, 128] inb_S8x1024x128_S1x1024x128_2_0_0, slab 256 (by decide) R⟩,
          ⟨Rect.unit ![1, 0, 0] ![1, 1024, 128] inb_S8x1024x128_S1x1024x128_1_0_0, slab 128 (by decide) R⟩,
          ⟨Rect.unit ![0, 0, 0] ![1, 1024, 128] inb_S8x1024x128_S1x1024x128_0_0_0, slab 0 (by decide) R⟩]

theorem stores_at (R : FVec Ideal S1024x1024 .f32) (rest : List (View.Piece (Elt Ideal) S8x1024x128 .f32)) (y : S8x1024x128.Idx) :
    View.canon (stores R ++ rest) y = slabs R y := by
  have pieces : View.PiecesOf (Val := Elt Ideal) (e := .f32) (slabs R) (stores R) :=
    ⟨slab_at 896 7 rfl (by decide) (by decide) R inb_S8x1024x128_S1x1024x128_7_0_0,
      slab_at 768 6 rfl (by decide) (by decide) R inb_S8x1024x128_S1x1024x128_6_0_0,
      slab_at 640 5 rfl (by decide) (by decide) R inb_S8x1024x128_S1x1024x128_5_0_0,
      slab_at 512 4 rfl (by decide) (by decide) R inb_S8x1024x128_S1x1024x128_4_0_0,
      slab_at 384 3 rfl (by decide) (by decide) R inb_S8x1024x128_S1x1024x128_3_0_0,
      slab_at 256 2 rfl (by decide) (by decide) R inb_S8x1024x128_S1x1024x128_2_0_0,
      slab_at 128 1 rfl (by decide) (by decide) R inb_S8x1024x128_S1x1024x128_1_0_0,
      slab_at 0 0 rfl (by decide) (by decide) R inb_S8x1024x128_S1x1024x128_0_0_0, trivial⟩
  exact View.canon_append_of_piecesOf (slabs R) rest (stores R) pieces y
    (View.cover_of_tiledL (stores R) S1x1024x128.size (by sl_kernel_rfl) y)

/-- Every fourth row of slab `k`, from row `a` on. -/
abbrev turned (R : FVec Ideal S1024x1024 .f32) (rest : List (View.Piece (Elt Ideal) S8x1024x128 .f32)) (a k : ℕ)
    (inb : ∀ i, (![1, 256, 128] : Fin 3 → ℕ) i = 0
      ∨ (![k, a, 0] : Fin 3 → ℕ) i + (![1, 4, 1] : Fin 3 → ℕ) i * ((![1, 256, 128] : Fin 3 → ℕ) i - 1) < S8x1024x128.size i) :
    FVec Ideal S1x256x128 .f32 :=
  (View.whole cc0_scratch0).readCov (Val := Elt Ideal) (stores R ++ rest)
    (⟨![k, a, 0], ![1, 256, 128], ![1, 4, 1], inb⟩ : LoadRect S8x1024x128)

theorem turned_at (R : FVec Ideal S1024x1024 .f32) (rest) (a k : ℕ) (ha : a < 4) (hk : k < 8) (inb) (r : Fin 256) (e : Fin 128) :
    turned R rest a k inb (ix3 0 r e) = R (ix2 ⟨a + 4 * r.val, by omega⟩ ⟨128 * k + e.val, by omega⟩) := by
  unfold turned
  rw [View.readCov_eq_canon']
  refine (stores_at R rest _).trans (congrArg R ?_)
  funext i
  fin_cases i
  · exact Fin.ext (by show a + 4 * r.val = a + 4 * r.val; rfl)
  · exact Fin.ext (by show 128 * (k + 1 * 0) + (0 + 1 * e.val) = 128 * k + e.val; omega)

/-- The eight slabs' rows set side by side again. -/
theorem beside (v0 v1 v2 v3 v4 v5 v6 v7 : FVec Ideal S1x256x128 .f32) (Q : Fin 256 → ℕ → EReal)
    (h0 : ∀ r (e : Fin 128), v0 (ix3 0 r e) = Q r (128 * 0 + e.val)) (h1 : ∀ r (e : Fin 128), v1 (ix3 0 r e) = Q r (128 * 1 + e.val))
    (h2 : ∀ r (e : Fin 128), v2 (ix3 0 r e) = Q r (128 * 2 + e.val)) (h3 : ∀ r (e : Fin 128), v3 (ix3 0 r e) = Q r (128 * 3 + e.val))
    (h4 : ∀ r (e : Fin 128), v4 (ix3 0 r e) = Q r (128 * 4 + e.val)) (h5 : ∀ r (e : Fin 128), v5 (ix3 0 r e) = Q r (128 * 5 + e.val))
    (h6 : ∀ r (e : Fin 128), v6 (ix3 0 r e) = Q r (128 * 6 + e.val)) (h7 : ∀ r (e : Fin 128), v7 (ix3 0 r e) = Q r (128 * 7 + e.val))
    (r : Fin 256) (d : Fin 1024) :
    k0_pay33 (F := Ideal) v0 v1 v2 v3 v4 v5 v6 v7 (ix4 0 0 r d) = Q r d.val := by
  pointwise [k0_pay33, h0, h1, h2, h3, h4, h5, h6, h7]
  repeat' split
  all_goals exact congrArg (Q r) (by omega)

/-- Every fourth row from row `a` on, from the slabs. -/
theorem regroup (R : FVec Ideal S1024x1024 .f32) (rest) (a : ℕ) (ha : a < 4) (i0 i1 i2 i3 i4 i5 i6 i7) (r : Fin 256) (d : Fin 1024) :
    k0_pay33 (F := Ideal) (turned R rest a 0 i0) (turned R rest a 1 i1) (turned R rest a 2 i2) (turned R rest a 3 i3)
      (turned R rest a 4 i4) (turned R rest a 5 i5) (turned R rest a 6 i6) (turned R rest a 7 i7) (ix4 0 0 r d)
      = R (ix2 ⟨a + 4 * r.val, by omega⟩ d) := by
  have h : ∀ (k : ℕ) (hk : k < 8) (inb) (r : Fin 256) (e : Fin 128), turned R rest a k inb (ix3 0 r e)
      = if h : 128 * k + e.val < 1024 then R (ix2 ⟨a + 4 * r.val, by omega⟩ ⟨128 * k + e.val, h⟩) else 0 := by
    intro k hk inb r e
    rw [dif_pos (by omega)]
    exact turned_at R rest a k ha hk inb r e
  refine (beside _ _ _ _ _ _ _ _ (fun r n => if h : n < 1024 then R (ix2 ⟨a + 4 * r.val, by omega⟩ ⟨n, h⟩) else 0)
    (h 0 (by decide) i0) (h 1 (by decide) i1) (h 2 (by decide) i2) (h 3 (by decide) i3)
    (h 4 (by decide) i4) (h 5 (by decide) i5) (h 6 (by decide) i6) (h 7 (by decide) i7) r d).trans ?_
  exact dif_pos d.isLt

end Cert.Qkv4Ideal.Final

end
-- ==== Proof.Qkv4Final.lean ====
module

public import proofs.«01_k».proof.Proof.Qkv4RefRows
public import proofs.«01_k».proof.Proof.Qkv4Regroup

@[expose] public section

set_option maxRecDepth 16384

noncomputable section

/-! # The two results of the projection call for the head group of dilation 4 -/

namespace Cert.Qkv4Ideal.Final

open Idealize.ShloMosaic Idealize.ShloMosaic.TcCoe Idealize.SL.Sem
open Cert.Qkv4Ideal Cert.Qkv4Ideal.Gen Cert.Qkv4RefIdeal.Rows Cert.QkvRefIdeal.Rows Cert.Rows

section Payloads

variable (x : FVec Ideal S1x1024x1024 .f32) (b : FVec Ideal S1x1024 .f32) (w : FVec Ideal S1024x1024 .bf16)
  (X g : Fin 1024 → EReal) (W : Fin 1024 → Fin 1024 → EReal) (r : Fin 1024) (hx : ∀ k, x (ix3 0 r k) = X k)
  (hb : ∀ k, b (ix2 0 k) = g k) (hw : ∀ k d, w (ix2 k d) = W k d)

include hx hb

theorem pay2_at (d : Fin 1024) : k0_pay2 (F := Ideal) x b (ix2 r d) = rms X g d := by
  pointwise [k0_pay2, hx, hb, rms]

include hw

theorem pay3_at (d : Fin 1024) : k0_pay3 (F := Ideal) x b w (ix2 r d) = (∑ k, rms X g k * W k d) * scale := by
  pointwise [k0_pay3, pay2_at x b X g r hx hb, hw]

theorem pay34_at (d : Fin 1024) : k0_pay34 (F := Ideal) (k0_pay2 x b) w (ix2 r d) = ∑ k, rms X g k * W k d := by
  pointwise [k0_pay34, pay2_at x b X g r hx hb, hw]

end Payloads

section Tails

variable (x : FVec Ideal S1x1024x1024 .f32) (b : FVec Ideal S1x1024 .f32) (w : FVec Ideal S1024x1024 .bf16)
  (X g : Fin 1024 → EReal) (W : Fin 1024 → Fin 1024 → EReal) (r : Fin 512)
  (hx : ∀ k, x (ix3 0 ⟨512 + r.val, by omega⟩ k) = X k)
  (hb : ∀ k, b (ix2 0 k) = g k) (hw : ∀ k d, w (ix2 k d) = W k d)

include hx hb hw

theorem pay35_at (d : Fin 1024) : k0_pay35 (F := Ideal) (k0_pay2 x b) w (ix3 0 r d) = ∑ k, rms X g k * W k d := by
  pointwise [k0_pay35, pay34_at x b w X g W ⟨512 + r.val, by omega⟩ hx hb hw]

end Tails

/-- Where every window's block lies at grid point `t`. -/
theorem idx : ∀ t : Fin cfg0.N, win0_0.index t = ![t.val / 4, t.val % 4, 0] ∧ win0_1.index t = ![0, 0]
    ∧ win0_2.index t = ![0, 1] ∧ win0_3.index t = ![t.val / 4, 0, t.val % 4, 0] ∧ win0_4.index t = ![t.val / 4, 0, 0]
    ∧ t.val / 4 < 4 :=
  (by decide +kernel : ∀ t : Fin grid0.N, _)

theorem lt_N (t : Fin cfg0.N) : t.val < 16 := t.isLt

/-- The batch of grid point `t`, the row of the array that is row `r` of its block, and the row of a subsequence. -/
abbrev bat (t : Fin cfg0.N) : Fin 4 := ⟨t.val / 4, by have := lt_N t; omega⟩
abbrev T (t : Fin cfg0.N) (r : Fin 1024) : Fin 4096 := ⟨1024 * (t.val % 4) + r.val, by omega⟩
abbrev sub (t : Fin cfg0.N) (r : Fin 256) : Fin 1024 := ⟨256 * (t.val % 4) + r.val, by omega⟩

variable (m : (ℓ : Loc nD τ sig) → Buf (Elt Ideal) ℓ) (c : Dev nD)

abbrev A0 : FVec Ideal S4x4096x1024 .f32 := m ((c : Thread nD τ).loc main_arg0)
abbrev A1 : FVec Ideal S4x4x1024 .f32 := m ((c : Thread nD τ).loc main_arg1)
abbrev A2 : FVec Ideal S1x1024x9216 .f32 := m ((c : Thread nD τ).loc main_arg2)

section Blocks

variable (t : Fin cfg0.N)

theorem x_blk (r : Fin 1024) (d : Fin 1024) : iblk m c 0 t (ix3 0 r d) = A0 m c (ix3 (bat t) (T t r) d) := by
  blk_point [iblk, V, idx t]

theorem g_blk (d : Fin 1024) : iblk m c 1 t (ix2 0 d) = A1 m c (ix3 1 0 d) := by
  blk_point [iblk, V, idx t]

theorem w_blk (k : Fin 1024) (n : Fin 3072) : iblk m c 2 t (ix2 k n) = A2 m c (ix3 0 k ⟨3072 + n.val, by omega⟩) := by
  blk_point [iblk, V, idx t]

end Blocks

/-- The two results, as the reference has them. -/
abbrev out : FVec Ideal S4x4x1024x3072 .bf16 := qkv4Arr (A0 m c) (A1 m c) (A2 m c)
abbrev new : FVec Ideal S4x512x2048 .f32 := new4Arr (A0 m c) (A1 m c) (A2 m c)

/-- The second result's window writes its array back only after the last grid column. -/
theorem flush4 : ∀ t : Fin cfg0.N, (cfg0.win 4).flush t = true → t.val % 4 = 3 :=
  (by decide +kernel : ∀ t : Fin grid0.N, _)

/-- A load of 1024 columns of the staged matrix. -/
theorem w_ld (t : Fin cfg0.N) (o p : ℕ) (hp : p = 3072 + o) (ho : o + 1024 ≤ 3072) (inb) (k d : Fin 1024) :
    View.ld (iblk m c 2 t) (Rect.unit (s := S1024x3072) ![0, o] ![1024, 1024] inb) (ix2 k d)
      = A2 m c (ix3 0 k ⟨p + d.val, by omega⟩) := by
  subst hp
  pointwise [w_blk m c t]
  exact congrArg (fun n => A2 m c (ix3 0 k n)) (Fin.ext (by show 3072 + (o + d.val) = 3072 + o + d.val; omega))

/-- A third of the first result's block: row `a + 4 r` of the block stands at row `r` of subsequence `a`. -/
theorem out_at (t : Fin cfg0.N) (a : Fin 4) (r : Fin 256) (o : ℕ) (ho : o + 1024 ≤ 3072) (d : Fin 1024) :
    out m c (ix4 (bat t) a (sub t r) ⟨o + d.val, by omega⟩)
      = if o + d.val < 1024 then
          col (A0 m c) (A1 m c) (A2 m c) (bat t) (T t ⟨a.val + 4 * r.val, by omega⟩) ⟨3072 + o + d.val, by omega⟩ * scale
        else col (A0 m c) (A1 m c) (A2 m c) (bat t) (T t ⟨a.val + 4 * r.val, by omega⟩) ⟨3072 + o + d.val, by omega⟩ := by
  have step : ∀ (p : ℕ) (h : p < 9216) (s : ℕ) (hs : s < 4096), p = 3072 + o + d.val →
      s = 1024 * (t.val % 4) + (a.val + 4 * r.val) → col (A0 m c) (A1 m c) (A2 m c) (bat t) ⟨s, hs⟩ ⟨p, h⟩
        = col (A0 m c) (A1 m c) (A2 m c) (bat t) (T t ⟨a.val + 4 * r.val, by omega⟩) ⟨3072 + o + d.val, by omega⟩ := by
    intro p h s hs e e'; subst e; subst e'; rfl
  show (if o + d.val < 1024 then
      col (A0 m c) (A1 m c) (A2 m c) (bat t) ⟨4 * (256 * (t.val % 4) + r.val) + a.val, _⟩ ⟨3072 + (o + d.val), _⟩ * scale
    else col (A0 m c) (A1 m c) (A2 m c) (bat t) ⟨4 * (256 * (t.val % 4) + r.val) + a.val, _⟩ ⟨3072 + (o + d.val), _⟩) = _
  rw [step (3072 + (o + d.val)) (by omega) (4 * (256 * (t.val % 4) + r.val) + a.val) (by omega) (by omega) (by omega)]

section Thirds

/-- A strided read of a slab stays inside the scratch. -/
theorem strided (a k : ℕ) (ha : a < 4) (hk : k < 8) : ∀ i, (![1, 256, 128] : Fin 3 → ℕ) i = 0
    ∨ (![k, a, 0] : Fin 3 → ℕ) i + (![1, 4, 1] : Fin 3 → ℕ) i * ((![1, 256, 128] : Fin 3 → ℕ) i - 1) < S8x1024x128.size i := by
  intro i
  refine Or.inr ?_
  fin_cases i
  · show k + 1 * (1 - 1) < 8; omega
  · show a + 4 * (256 - 1) < 1024; omega
  · show 0 + 1 * (128 - 1) < 128; omega

/-- The eight reads of subsequence `a`, put side by side. -/
abbrev gathered (rest : List (View.Piece (Elt Ideal) S8x1024x128 .f32)) (a : ℕ) (ha : a < 4) (R : FVec Ideal S1024x1024 .f32) :
    FVec Ideal S1x1x256x1024 .bf16 :=
  k0_pay33 (turned R rest a 0 (strided a 0 ha (by decide))) (turned R rest a 1 (strided a 1 ha (by decide)))
    (turned R rest a 2 (strided a 2 ha (by decide))) (turned R rest a 3 (strided a 3 ha (by decide)))
    (turned R rest a 4 (strided a 4 ha (by decide))) (turned R rest a 5 (strided a 5 ha (by decide)))
    (turned R rest a 6 (strided a 6 ha (by decide))) (turned R rest a 7 (strided a 7 ha (by decide)))

theorem part_inb (o : ℕ) (ho : o + 1024 ≤ 3072) :
    ∀ a, (![0, o] : Fin 2 → ℕ) a + (![1024, 1024] : Fin 2 → ℕ) a ≤ S1024x3072.size a := by
  intro a
  fin_cases a
  · show 0 + 1024 ≤ 1024; omega
  · exact ho

variable (t : Fin cfg0.N) (rest : List (View.Piece (Elt Ideal) S8x1024x128 .f32)) (a : ℕ)
  (r : Fin 256) (d : Fin 1024) (b : Fin 4) (n : Fin 3072) (hb : b.val = a)

/-- Columns `o` to `o + 1023` of the staged matrix. -/
abbrev part (o : ℕ) (ho : o + 1024 ≤ 3072) : FVec Ideal S1024x1024 .bf16 :=
  View.ld (iblk m c 2 t) (Rect.unit (s := S1024x3072) ![0, o] ![1024, 1024] (part_inb o ho))

/-- The queries' third of a block. -/
theorem q_at (hn : n.val = d.val) :
    gathered rest a (hb ▸ b.isLt) (k0_pay3 (iblk m c 0 t) (iblk m c 1 t) (part m c t 0 (by decide))) (ix4 0 0 r d)
      = out m c (ix4 (bat t) b (sub t r) n) := by
  subst hb
  have hd : 0 + d.val < 3072 := by omega
  obtain rfl : n = ⟨0 + d.val, hd⟩ := Fin.ext (hn.trans (Nat.zero_add _).symm)
  rw [out_at m c t b r 0 (by omega), if_pos (by omega)]
  refine (regroup _ rest b.val b.isLt _ _ _ _ _ _ _ _ r d).trans ?_
  exact pay3_at _ _ _ _ _ _ _ (x_blk m c t _) (g_blk m c t) (w_ld m c t 0 3072 rfl (by omega) _) d

/-- The keys' third, at `o = 1024`, and the values', at `o = 2048`. -/
theorem kv_at (o : ℕ) (ho : 1024 ≤ o) (ho' : o + 1024 ≤ 3072) (hn : n.val = o + d.val) :
    gathered rest a (hb ▸ b.isLt) (k0_pay34 (k0_pay2 (iblk m c 0 t) (iblk m c 1 t)) (part m c t o ho')) (ix4 0 0 r d)
      = out m c (ix4 (bat t) b (sub t r) n) := by
  subst hb
  have hd : o + d.val < 3072 := by omega
  obtain rfl : n = ⟨o + d.val, hd⟩ := Fin.ext hn
  rw [out_at m c t b r o ho', if_neg (by omega)]
  refine (regroup _ rest b.val b.isLt _ _ _ _ _ _ _ _ r d).trans ?_
  exact pay34_at _ _ _ _ _ _ _ (x_blk m c t _) (g_blk m c t) (w_ld m c t o (3072 + o) rfl ho' _) d

end Thirds

set_option maxHeartbeats 800000 in
/-- The first result's block: four subsequences, three thirds each. -/
theorem out_blk (t : Fin cfg0.N) (a : Fin 4) (r : Fin 256) (n : Fin 3072) :
    (outsAt0 m c t.val t.isLt).1 (ix4 0 a r n) = out m c (ix4 (bat t) a (sub t r) n) := by
  by_cases h : t.val % 4 = 3
  on_goal 1 => rw [outsAt0_B m c t h h]
  on_goal 2 => rw [outsAt0_A m c t h h]
  all_goals
    frame_out
    canon_tiles x e
    all_goals
      obtain ⟨r', d, rfl⟩ : ∃ (r' : Fin 256) (d : Fin 1024), x = ix4 0 0 r' d :=
        ⟨x 2, x 3, by funext a; fin_cases a <;> first | exact Subsingleton.elim (α := Fin 1) _ _ | rfl⟩
      obtain rfl : r = r' := Fin.ext e2
      first
        | (have e : n.val = 2048 + d.val := e3
           exact kv_at m c t _ _ r d a n e1 2048 (by decide) (by decide) e)
        | (have e : n.val = 1024 + d.val := e3
           exact kv_at m c t _ _ r d a n e1 1024 (by decide) (by decide) e)
        | (have e : n.val = d.val := e3
           exact q_at m c t _ _ r d a n e1 e)

/-- A half of the second result's block: the last 512 rows of the keys, at `o = 1024`, or of the values. -/
theorem tail_at (t : Fin cfg0.N) (h : t.val % 4 = 3) (o : ℕ) (ho : 1024 ≤ o) (ho' : o + 1024 ≤ 3072) (r : Fin 512) (d : Fin 1024)
    (n : Fin 2048) (hn : n.val = o - 1024 + d.val) :
    k0_pay35 (F := Ideal) (k0_pay2 (iblk m c 0 t) (iblk m c 1 t)) (part m c t o ho') (ix3 0 r d) = new m c (ix3 (bat t) r n) := by
  refine (pay35_at _ _ _ _ _ _ r (x_blk m c t _) (g_blk m c t) (w_ld m c t o (3072 + o) rfl ho' _) d).trans ?_
  have step : ∀ (p : ℕ) (hp : p < 9216) (s : ℕ) (hs : s < 4096), p = 3072 + o + d.val → s = 1024 * (t.val % 4) + (512 + r.val) →
      col (A0 m c) (A1 m c) (A2 m c) (bat t) (T t ⟨512 + r.val, by omega⟩) ⟨3072 + o + d.val, by omega⟩
        = col (A0 m c) (A1 m c) (A2 m c) (bat t) ⟨s, hs⟩ ⟨p, hp⟩ := by
    intro p hp s hs e e'; subst e; subst e'; rfl
  exact step (4096 + n.val) (by omega) (3584 + r.val) (by omega) (by omega) (by omega)

theorem new_blk (t : Fin cfg0.N) (h : t.val % 4 = 3) (r : Fin 512) (n : Fin 2048) :
    (outsAt0 m c t.val t.isLt).2 (ix3 0 r n) = new m c (ix3 (bat t) r n) := by
  rw [outsAt0_B m c t h h]
  frame_out
  canon_tiles x e
  all_goals
    obtain ⟨r', d, rfl⟩ : ∃ (r' : Fin 512) (d : Fin 1024), x = ix3 0 r' d :=
      ⟨x 1, x 2, by funext a; fin_cases a <;> first | exact Subsingleton.elim (α := Fin 1) _ _ | rfl⟩
    obtain rfl : r = r' := Fin.ext e1
    first
      | (have e : n.val = 1024 + d.val := e2
         exact tail_at m c t h 2048 (by decide) (by decide) r d n e)
      | (have e : n.val = d.val := e2
         exact tail_at m c t h 1024 (by decide) (by decide) r d n (e.trans (Nat.zero_add _).symm))

theorem final3 : (dats m 0 c).arrAt 3 cfg0.N = out m c := by
  refine (dats m 0 c).arrAt_eq_of_covers 3 _ (by decide +kernel) fun t hf y => ?_
  blk_simp
  rw [after0_3]
  obtain ⟨a, r, n, rfl⟩ : ∃ (a : Fin 4) (r : Fin 256) (n : Fin 3072), y = ix4 0 a r n :=
    ⟨y 1, y 2, y 3, by funext a; fin_cases a <;> first | exact Subsingleton.elim (α := Fin 1) _ _ | rfl⟩
  have e : ∀ G : FVec Ideal S4x4x1024x3072 .bf16,
      G (((View.whole main_v5_0).slice (win0_3.rect t)).emb (ix4 0 a r n)) = G (ix4 (bat t) a (sub t r) n) := by
    intro G
    blk_point [idx t]
  exact (out_blk m c t a r n).trans (e (out m c)).symm

theorem final4 : (dats m 0 c).arrAt 4 cfg0.N = new m c := by
  refine (dats m 0 c).arrAt_eq_of_covers 4 _ (by decide +kernel) fun t hf y => ?_
  blk_simp
  rw [after0_4]
  obtain ⟨r, n, rfl⟩ : ∃ (r : Fin 512) (n : Fin 2048), y = ix3 0 r n :=
    ⟨y 1, y 2, by funext a; fin_cases a <;> first | exact Subsingleton.elim (α := Fin 1) _ _ | rfl⟩
  have e : ∀ G : FVec Ideal S4x512x2048 .f32,
      G (((View.whole main_v5_1).slice (win0_4.rect t)).emb (ix3 0 r n)) = G (ix3 (bat t) r n) := by
    intro G
    blk_point [idx t]
  exact (new_blk m c t (flush4 t hf) r n).trans (e (new m c)).symm

end Cert.Qkv4Ideal.Final

end
-- ==== Proof.Qkv4Claim.lean ====
module

public import proofs.«01_k».proof.Defs
public import proofs.«01_k».proof.Proof.Qkv4Final
public import proofs.«01_k».proof.Proof.Gen.Qkv4RefIdeal.Run
public import proofs.«01_k».proof.Proof.Gen.Qkv4RefIdeal.Read
public import Idealize.ShloMosaic.Lib.Claim

@[expose] public section

set_option maxRecDepth 16384

noncomputable section

/-! # The query, key and value call for dilation 4 computes what its reference computes -/

namespace Cert.Proof

open Idealize.ShloMosaic Idealize.SL.Sem

set_option maxHeartbeats 400000 in
theorem qkv4_algebraic [Cert.Qkv4Ideal.Facts] [Cert.Qkv4RefIdeal.Facts] : Cert.algebraic_Qkv4Ideal_Qkv4RefIdeal := by
  pair_intro
  · run_from Cert.Qkv4Ideal.Value.run_blocks m g
  · run_from Cert.Qkv4RefIdeal.Value.run m' g'
    · obtain ⟨h0, h1, h2⟩ := hagree c
      refine Eq.trans (Cert.Qkv4RefIdeal.Read.val_main_v32_eq m' c) ?_
      rw [h0, h1, h2]
      exact (Cert.Qkv4RefIdeal.Rows.qkv4_eq _ _ _).trans (Cert.Qkv4Ideal.Final.final3 m c).symm
    · obtain ⟨-, -, h2⟩ := hagree c
      rw [h2]
      refine Eq.trans (Cert.Qkv4RefIdeal.Read.val_main_v28_eq (F := Ideal) (m (c.tc.loc Cert.Qkv4Ideal.main_arg0)) (m (c.tc.loc Cert.Qkv4Ideal.main_arg1)) (m (c.tc.loc Cert.Qkv4Ideal.main_arg2))) ?_
      exact (Cert.Qkv4RefIdeal.Rows.new4_eq _ _ _).trans (Cert.Qkv4Ideal.Final.final4 m c).symm

theorem qkv4_ref_frame [Cert.Qkv4RefIdeal.Facts] : Cert.quiescent_Qkv4RefIdeal := fun m g _ =>
  (θ_run _ _ _).mono (fun _ h => ⟨fun c => (h c).2.2, sem_eq_zero_of_no_sems rfl _⟩) (Cert.Qkv4RefIdeal.Value.run m g)

end Cert.Proof

end
-- ==== Proof.Qkv16RefRows.lean ====
module

public import proofs.«01_k».proof.Proof.QkvRefRows
public import proofs.«01_k».proof.Proof.Gen.Qkv16RefIdeal.Read

@[expose] public section

set_option maxRecDepth 16384

noncomputable section

/-! # The reference of the projection for the head group of dilation 16, row by row -/

namespace Cert.Qkv16RefIdeal.Rows

open Idealize.ShloMosaic Idealize.ShloMosaic.TcCoe Idealize.SL.Sem Idealize.ShloMosaic.StableHlo
open Cert.Qkv16RefIdeal Cert.Qkv16RefIdeal.Gen Cert.Qkv16RefIdeal.Read Cert.QkvRefIdeal.Rows Cert.Rows

variable (x0 : FVec Ideal S4x4096x1024 .f32) (x1 : FVec Ideal S4x4x1024 .f32) (x2 : FVec Ideal S1x1024x9216 .f32)

theorem z_at (b : Fin 4) (t : Fin 4096) (d : Fin 1024) :
    val_main_v14 (F := Ideal) x0 x1 (ix3 b t d) = rms (fun k => x0 (ix3 b t k)) (fun k => x1 (ix3 1 0 k)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

theorem col16_at (b : Fin 4) (t : Fin 4096) (n : Fin 9216) :
    val_main_v16 (F := Ideal) x0 x1 x2 (ix3 b t n) = col x0 x1 x2 b t n := by
  pointwise [val_main_v16, val_main_v15, z_at, col]

theorem q16_at (b : Fin 4) (t : Fin 4096) (e : Fin 1024) :
    val_main_v21 (F := Ideal) x0 x1 x2 (ix3 b t e) = col x0 x1 x2 b t ⟨6144 + e.val, by omega⟩ * scale := by
  pointwise [val_main_v21, val_main_v20, val_main_v19, val_main_v18, val_main_v17, val_main_cst_2, col16_at]

theorem k16_at (b : Fin 4) (t : Fin 4096) (e : Fin 1024) :
    val_main_v23 (F := Ideal) x0 x1 x2 (ix3 b t e) = col x0 x1 x2 b t ⟨7168 + e.val, by omega⟩ := by
  pointwise [val_main_v23, val_main_v22, val_main_v17, col16_at]

theorem v16_at (b : Fin 4) (t : Fin 4096) (e : Fin 1024) :
    val_main_v25 (F := Ideal) x0 x1 x2 (ix3 b t e) = col x0 x1 x2 b t ⟨8192 + e.val, by omega⟩ := by
  pointwise [val_main_v25, val_main_v24, val_main_v17, col16_at]

/-- The first result as one array: scaled queries, keys, values, the rows regrouped by their remainder modulo sixteen. -/
def qkv16Arr : FVec Ideal S4x16x256x3072 .bf16 := fun i =>
  have ha : (i 1).val < 16 := (i 1).isLt
  have hr : (i 2).val < 256 := (i 2).isLt
  have hn : (i 3).val < 3072 := (i 3).isLt
  if (i 3).val < 1024 then col x0 x1 x2 (i 0) ⟨16 * (i 2).val + (i 1).val, by omega⟩ ⟨6144 + (i 3).val, by omega⟩ * scale
  else col x0 x1 x2 (i 0) ⟨16 * (i 2).val + (i 1).val, by omega⟩ ⟨6144 + (i 3).val, by omega⟩

/-- The second result as one array: keys and values of the last 2048 rows. -/
def new16Arr : FVec Ideal S4x2048x2048 .f32 := fun i =>
  col x0 x1 x2 (i 0) ⟨2048 + (i 1).val, by have h : (i 1).val < 2048 := (i 1).isLt; omega⟩
    ⟨7168 + (i 2).val, by have h : (i 2).val < 2048 := (i 2).isLt; omega⟩

theorem qkv16_at (b : Fin 4) (a : Fin 16) (r : Fin 256) (n : Fin 3072) :
    val_main_v32 (F := Ideal) x0 x1 x2 (ix4 b a r n) = qkv16Arr x0 x1 x2 (ix4 b a r n) := by
  have step : ∀ (p : ℕ) (h : p < 9216) (t : ℕ) (ht : t < 4096), p = 6144 + n.val → t = 16 * r.val + a.val →
      col x0 x1 x2 b ⟨t, ht⟩ ⟨p, h⟩ = col x0 x1 x2 b ⟨16 * r.val + a.val, by omega⟩ ⟨6144 + n.val, by omega⟩ := by
    intro p h t ht e e'; subst e; subst e'; rfl
  show _ = if n.val < 1024 then col x0 x1 x2 b ⟨16 * r.val + a.val, _⟩ ⟨6144 + n.val, _⟩ * scale
    else col x0 x1 x2 b ⟨16 * r.val + a.val, _⟩ ⟨6144 + n.val, _⟩
  pointwise [val_main_v32, val_main_v31, val_main_v30, val_main_v29, q16_at, k16_at, v16_at]
  by_cases c0 : (n : ℕ) < 1024
  · rw [dif_pos c0, if_pos c0]
    exact congrArg (· * scale) (step _ _ _ _ (by omega) (by omega))
  rw [dif_neg c0, if_neg c0]
  by_cases c1 : (n : ℕ) - 1024 < 1024
  · rw [dif_pos c1]; exact step _ _ _ _ (by omega) (by omega)
  rw [dif_neg c1]
  exact step _ _ _ _ (by omega) (by omega)

theorem new16_at (b : Fin 4) (t : Fin 2048) (n : Fin 2048) :
    val_main_v28 (F := Ideal) x0 x1 x2 (ix3 b t n) = new16Arr x0 x1 x2 (ix3 b t n) := by
  have step : ∀ (p : ℕ) (h : p < 9216), p = 7168 + n.val →
      col x0 x1 x2 b ⟨2048 + t.val, by omega⟩ ⟨p, h⟩ = col x0 x1 x2 b ⟨2048 + t.val, by omega⟩ ⟨7168 + n.val, by omega⟩ := by
    intro p h e; subst e; rfl
  show _ = col x0 x1 x2 b ⟨2048 + t.val, _⟩ ⟨7168 + n.val, _⟩
  pointwise [val_main_v28, val_main_v27, val_main_v26, k16_at, v16_at]
  by_cases c0 : (n : ℕ) < 1024
  · rw [dif_pos c0]
  rw [dif_neg c0]
  exact step _ _ (by omega)

theorem qkv16_eq : val_main_v32 (F := Ideal) x0 x1 x2 = qkv16Arr x0 x1 x2 := by
  funext i
  have e : i = ix4 (i 0) (i 1) (i 2) (i 3) := by
    funext a; fin_cases a <;> rfl
  rw [e]
  exact qkv16_at x0 x1 x2 (i 0) (i 1) (i 2) (i 3)

theorem new16_eq : val_main_v28 (F := Ideal) x0 x1 x2 = new16Arr x0 x1 x2 := by
  funext i
  rw [eq_ix3 i]
  exact new16_at x0 x1 x2 (i 0) (i 1) (i 2)

end Cert.Qkv16RefIdeal.Rows

end
-- ==== Proof.Qkv16Regroup.lean ====
module

public import proofs.«01_k».proof.Proof.Gen.Qkv16Ideal.Value
public import proofs.«01_k».proof.Proof.Qkv4Regroup

@[expose] public section

set_option maxRecDepth 16384

noncomputable section

/-! # Rows regrouped by their remainder modulo sixteen, in two steps of four -/

namespace Cert.Qkv16Ideal.Final

open Idealize.ShloMosaic Idealize.ShloMosaic.TcCoe Idealize.SL.Sem
open Cert.Qkv16Ideal Cert.Qkv16Ideal.Gen
open Cert.Qkv4Ideal.Final (slab slabs stores stores_at)

/-- The strided reads stay inside the scratch. -/
theorem strided0 (a k : ℕ) (ha : a < 4) (hk : k < 8) : ∀ i, (![1, 256, 128] : Fin 3 → ℕ) i = 0
    ∨ (![k, a, 0] : Fin 3 → ℕ) i + (![1, 4, 1] : Fin 3 → ℕ) i * ((![1, 256, 128] : Fin 3 → ℕ) i - 1) < S8x1024x128.size i := by
  intro i
  refine Or.inr ?_
  fin_cases i
  · show k + 1 * (1 - 1) < 8; omega
  · show a + 4 * (256 - 1) < 1024; omega
  · show 0 + 1 * (128 - 1) < 128; omega

theorem strided1 (c k : ℕ) (hc : c < 4) (hk : k < 8) : ∀ i, (![1, 64, 128] : Fin 3 → ℕ) i = 0
    ∨ (![k, c, 0] : Fin 3 → ℕ) i + (![1, 4, 1] : Fin 3 → ℕ) i * ((![1, 64, 128] : Fin 3 → ℕ) i - 1) < S8x256x128.size i := by
  intro i
  refine Or.inr ?_
  fin_cases i
  · show k + 1 * (1 - 1) < 8; omega
  · show c + 4 * (64 - 1) < 256; omega
  · show 0 + 1 * (128 - 1) < 128; omega

/-- The eight slabs after the first step. -/
def halfway (R : FVec Ideal S1024x1024 .f32) (a : ℕ) (ha : a < 4) : FVec Ideal S8x256x128 .f32 := fun y =>
  R (ix2 ⟨a + 4 * (y 1).val, by
    have h1 : (y 1).val < 256 := (y 1).isLt
    omega⟩ ⟨128 * (y 0).val + (y 2).val, by
    have h0 : (y 0).val < 8 := (y 0).isLt
    have h2 : (y 2).val < 128 := (y 2).isLt
    omega⟩)

section Steps

variable (R : FVec Ideal S1024x1024 .f32) (rest : List (View.Piece (Elt Ideal) S8x1024x128 .f32)) (a : ℕ) (ha : a < 4)

/-- The first step: every fourth row of slab `k`, from row `a` on. -/
abbrev turned (k : ℕ) (hk : k < 8) : FVec Ideal S1x256x128 .f32 :=
  (View.whole cc0_scratch0).readCov (Val := Elt Ideal) (stores R ++ rest)
    (⟨![k, a, 0], ![1, 256, 128], ![1, 4, 1], strided0 a k ha hk⟩ : LoadRect S8x1024x128)

theorem turned_at (k : ℕ) (hk : k < 8) (r : Fin 256) (e : Fin 128) :
    turned R rest a ha k hk (ix3 0 r e) = R (ix2 ⟨a + 4 * r.val, by omega⟩ ⟨128 * k + e.val, by omega⟩) := by
  unfold turned
  rw [View.readCov_eq_canon']
  refine (stores_at R rest _).trans (congrArg R ?_)
  funext i
  fin_cases i
  · exact Fin.ext (by show a + 4 * r.val = a + 4 * r.val; rfl)
  · exact Fin.ext (by show 128 * (k + 1 * 0) + (0 + 1 * e.val) = 128 * k + e.val; omega)

/-- What the first step leaves of slab `k`. -/
def kept (k : ℕ) (hk : k < 8) : FVec Ideal S1x256x128 .f32 :=
  shapeCast S1x256x128 (shapeCast S256x128 (turned R rest a ha k hk) shapeCasts_S1x256x128_S256x128) shapeCasts_S256x128_S1x256x128

theorem kept_at (k : ℕ) (hk : k < 8)
    (inb : ∀ a, (![k, 0, 0] : Fin 3 → ℕ) a + (![1, 256, 128] : Fin 3 → ℕ) a ≤ S8x256x128.size a) (x : S1x256x128.Idx) :
    kept R rest a ha k hk x = halfway R a ha ((Rect.unit (s := S8x256x128) ![k, 0, 0] ![1, 256, 128] inb).emb x) := by
  obtain ⟨r, e, rfl⟩ : ∃ (r : Fin 256) (e : Fin 128), x = ix3 0 r e :=
    ⟨x 1, x 2, by funext a; fin_cases a <;> first | exact Subsingleton.elim (α := Fin 1) _ _ | rfl⟩
  have e1 : kept R rest a ha k hk (ix3 0 r e) = R (ix2 ⟨a + 4 * r.val, by omega⟩ ⟨128 * k + e.val, by omega⟩) := by
    pointwise [kept, turned_at R rest a ha k hk]
  rw [e1]
  refine congrArg R ?_
  funext i
  fin_cases i
  · exact Fin.ext (by show a + 4 * r.val = a + 4 * (0 + 1 * r.val); omega)
  · exact Fin.ext (by show 128 * k + e.val = 128 * (k + 1 * 0) + (0 + 1 * e.val); omega)

/-- The eight stores of the first step. -/
abbrev stores' : List (View.Piece (Elt Ideal) S8x256x128 .f32) :=
  [⟨Rect.unit ![7, 0, 0] ![1, 256, 128] inb_S8x256x128_S1x256x128_7_0_0, kept R rest a ha 7 (by decide)⟩,
    ⟨Rect.unit ![6, 0, 0] ![1, 256, 128] inb_S8x256x128_S1x256x128_6_0_0, kept R rest a ha 6 (by decide)⟩,
    ⟨Rect.unit ![5, 0, 0] ![1, 256, 128] inb_S8x256x128_S1x256x128_5_0_0, kept R rest a ha 5 (by decide)⟩,
    ⟨Rect.unit ![4, 0, 0] ![1, 256, 128] inb_S8x256x128_S1x256x128_4_0_0, kept R rest a ha 4 (by decide)⟩,
    ⟨Rect.unit ![3, 0, 0] ![1, 256, 128] inb_S8x256x128_S1x256x128_3_0_0, kept R rest a ha 3 (by decide)⟩,
    ⟨Rect.unit ![2, 0, 0] ![1, 256, 128] inb_S8x256x128_S1x256x128_2_0_0, kept R rest a ha 2 (by decide)⟩,
    ⟨Rect.unit ![1, 0, 0] ![1, 256, 128] inb_S8x256x128_S1x256x128_1_0_0, kept R rest a ha 1 (by decide)⟩,
    ⟨Rect.unit ![0, 0, 0] ![1, 256, 128] inb_S8x256x128_S1x256x128_0_0_0, kept R rest a ha 0 (by decide)⟩]

theorem stores'_at (rest' : List (View.Piece (Elt Ideal) S8x256x128 .f32)) (y : S8x256x128.Idx) : View.canon (stores' R rest a ha ++ rest') y = halfway R a ha y := by
  have pieces : View.PiecesOf (Val := Elt Ideal) (e := .f32) (halfway R a ha) (stores' R rest a ha) := by
    refine ⟨?_, ?_, ?_, ?_, ?_, ?_, ?_, ?_, trivial⟩
    all_goals
      intro x
      dsimp only
      exact kept_at R rest a ha _ _ _ _
  exact View.canon_append_of_piecesOf (halfway R a ha) rest' (stores' R rest a ha) pieces y
    (View.cover_of_tiledL (stores' R rest a ha) S1x256x128.size (by sl_kernel_rfl) y)

variable (rest' : List (View.Piece (Elt Ideal) S8x256x128 .f32)) (c : ℕ) (hc : c < 4)

/-- The second step: every fourth row of what the first left of slab `k`, from row `c` on. -/
abbrev again (k : ℕ) (hk : k < 8) : FVec Ideal S1x64x128 .f32 :=
  (View.whole cc0_scratch1).readCov (Val := Elt Ideal) (stores' R rest a ha ++ rest')
    (⟨![k, c, 0], ![1, 64, 128], ![1, 4, 1], strided1 c k hc hk⟩ : LoadRect S8x256x128)

theorem again_at (k : ℕ) (hk : k < 8) (r : Fin 64) (e : Fin 128) :
    again R rest a ha rest' c hc k hk (ix3 0 r e) = R (ix2 ⟨a + 4 * (c + 4 * r.val), by omega⟩ ⟨128 * k + e.val, by omega⟩) := by
  unfold again
  rw [View.readCov_eq_canon']
  refine (stores'_at R rest a ha rest' _).trans (congrArg R ?_)
  funext i
  fin_cases i
  · exact Fin.ext (by show a + 4 * (c + 4 * r.val) = a + 4 * (c + 4 * r.val); rfl)
  · exact Fin.ext (by show 128 * (k + 1 * 0) + (0 + 1 * e.val) = 128 * k + e.val; omega)

end Steps

/-- Eight slabs' rows side by side. -/
def side (v0 v1 v2 v3 v4 v5 v6 v7 : FVec Ideal S1x64x128 .f32) : FVec Ideal S1x1x64x1024 .bf16 :=
  shapeCast S1x1x64x1024 (truncf .bf16 (concatenate S64x1024 1 [⟨S64x128, shapeCast S64x128 v0 shapeCasts_S1x64x128_S64x128⟩,
    ⟨S64x128, shapeCast S64x128 v1 shapeCasts_S1x64x128_S64x128⟩,
    ⟨S64x128, shapeCast S64x128 v2 shapeCasts_S1x64x128_S64x128⟩,
    ⟨S64x128, shapeCast S64x128 v3 shapeCasts_S1x64x128_S64x128⟩,
    ⟨S64x128, shapeCast S64x128 v4 shapeCasts_S1x64x128_S64x128⟩,
    ⟨S64x128, shapeCast S64x128 v5 shapeCasts_S1x64x128_S64x128⟩,
    ⟨S64x128, shapeCast S64x128 v6 shapeCasts_S1x64x128_S64x128⟩,
    ⟨S64x128, shapeCast S64x128 v7 shapeCasts_S1x64x128_S64x128⟩] concatenates_S64x128_S64x128_S64x128_S64x128_S64x128_S64x128_S64x128_S64x128_S64x1024_d1 : FVec Ideal S64x1024 .f32) bitsLt_bf16_f32)
    shapeCasts_S64x1024_S1x1x64x1024

theorem side_at (v0 v1 v2 v3 v4 v5 v6 v7 : FVec Ideal S1x64x128 .f32) (Q : Fin 64 → ℕ → EReal)
    (h0 : ∀ r (e : Fin 128), v0 (ix3 0 r e) = Q r (128 * 0 + e.val))
    (h1 : ∀ r (e : Fin 128), v1 (ix3 0 r e) = Q r (128 * 1 + e.val))
    (h2 : ∀ r (e : Fin 128), v2 (ix3 0 r e) = Q r (128 * 2 + e.val))
    (h3 : ∀ r (e : Fin 128), v3 (ix3 0 r e) = Q r (128 * 3 + e.val))
    (h4 : ∀ r (e : Fin 128), v4 (ix3 0 r e) = Q r (128 * 4 + e.val))
    (h5 : ∀ r (e : Fin 128), v5 (ix3 0 r e) = Q r (128 * 5 + e.val))
    (h6 : ∀ r (e : Fin 128), v6 (ix3 0 r e) = Q r (128 * 6 + e.val))
    (h7 : ∀ r (e : Fin 128), v7 (ix3 0 r e) = Q r (128 * 7 + e.val))
    (r : Fin 64) (d : Fin 1024) :
    side v0 v1 v2 v3 v4 v5 v6 v7 (ix4 0 0 r d) = Q r d.val := by
  pointwise [side, h0, h1, h2, h3, h4, h5, h6, h7]
  repeat' split
  all_goals exact congrArg (Q r) (by omega)

/-- The eight reads of subsequence `a + 4 c`, put side by side. -/
abbrev gathered (rest : List (View.Piece (Elt Ideal) S8x1024x128 .f32)) (a : ℕ) (ha : a < 4)
    (rest' : List (View.Piece (Elt Ideal) S8x256x128 .f32)) (c : ℕ) (hc : c < 4) (R : FVec Ideal S1024x1024 .f32) :
    FVec Ideal S1x1x64x1024 .bf16 :=
  side (again R rest a ha rest' c hc 0 (by decide))
    (again R rest a ha rest' c hc 1 (by decide))
    (again R rest a ha rest' c hc 2 (by decide))
    (again R rest a ha rest' c hc 3 (by decide))
    (again R rest a ha rest' c hc 4 (by decide))
    (again R rest a ha rest' c hc 5 (by decide))
    (again R rest a ha rest' c hc 6 (by decide))
    (again R rest a ha rest' c hc 7 (by decide))

/-- They are every sixteenth row of the array. -/
theorem gathered_at (rest : List (View.Piece (Elt Ideal) S8x1024x128 .f32)) (a : ℕ) (ha : a < 4)
    (rest' : List (View.Piece (Elt Ideal) S8x256x128 .f32)) (c : ℕ) (hc : c < 4) (R : FVec Ideal S1024x1024 .f32)
    (r : Fin 64) (d : Fin 1024) :
    gathered rest a ha rest' c hc R (ix4 0 0 r d) = R (ix2 ⟨a + 4 * (c + 4 * r.val), by omega⟩ d) := by
  have h : ∀ (k : ℕ) (hk : k < 8) (r : Fin 64) (e : Fin 128), again R rest a ha rest' c hc k hk (ix3 0 r e)
      = if h : 128 * k + e.val < 1024 then R (ix2 ⟨a + 4 * (c + 4 * r.val), by omega⟩ ⟨128 * k + e.val, h⟩) else 0 := by
    intro k hk r e
    rw [dif_pos (by omega)]
    exact again_at R rest a ha rest' c hc k hk r e
  refine (side_at _ _ _ _ _ _ _ _ (fun r n => if h : n < 1024 then R (ix2 ⟨a + 4 * (c + 4 * r.val), by omega⟩ ⟨n, h⟩) else 0)
    (h 0 (by decide)) (h 1 (by decide)) (h 2 (by decide)) (h 3 (by decide)) (h 4 (by decide)) (h 5 (by decide)) (h 6 (by decide)) (h 7 (by decide)) r d).trans ?_
  exact dif_pos d.isLt

end Cert.Qkv16Ideal.Final

end
-- ==== Proof.Qkv16Final.lean ====
module

public import proofs.«01_k».proof.Proof.Qkv16RefRows
public import proofs.«01_k».proof.Proof.Qkv16Regroup

@[expose] public section

set_option maxRecDepth 16384

noncomputable section

/-! # The two results of the projection call for the head group of dilation 16 -/

namespace Cert.Qkv16Ideal.Final

open Idealize.ShloMosaic Idealize.ShloMosaic.TcCoe Idealize.SL.Sem
open Cert.Qkv16Ideal Cert.Qkv16Ideal.Gen Cert.Qkv16RefIdeal.Rows Cert.QkvRefIdeal.Rows Cert.Rows

section Payloads

variable (x : FVec Ideal S1x1024x1024 .f32) (b : FVec Ideal S1x1024 .f32) (w : FVec Ideal S1024x1024 .bf16)
  (X g : Fin 1024 → EReal) (W : Fin 1024 → Fin 1024 → EReal) (r : Fin 1024) (hx : ∀ k, x (ix3 0 r k) = X k)
  (hb : ∀ k, b (ix2 0 k) = g k) (hw : ∀ k d, w (ix2 k d) = W k d)

include hx hb

theorem pay4_at (d : Fin 1024) : k0_pay4 (F := Ideal) x b (ix2 r d) = rms X g d := by
  pointwise [k0_pay4, hx, hb, rms]

include hw

theorem pay5_at (d : Fin 1024) : k0_pay5 (F := Ideal) x b w (ix2 r d) = (∑ k, rms X g k * W k d) * scale := by
  pointwise [k0_pay5, pay4_at x b X g r hx hb, hw]

theorem pay198_at (d : Fin 1024) : k0_pay198 (F := Ideal) (k0_pay4 x b) w (ix2 r d) = ∑ k, rms X g k * W k d := by
  pointwise [k0_pay198, pay4_at x b X g r hx hb, hw]

theorem pay199_at (d : Fin 1024) : k0_pay199 (F := Ideal) (k0_pay4 x b) w (ix3 0 r d) = ∑ k, rms X g k * W k d := by
  pointwise [k0_pay199, pay198_at x b w X g W r hx hb hw]

end Payloads

/-- Where every window's block lies at grid point `t`. -/
theorem idx : ∀ t : Fin cfg0.N, win0_0.index t = ![t.val / 4, t.val % 4, 0] ∧ win0_1.index t = ![0, 0]
    ∧ win0_2.index t = ![0, 2] ∧ win0_3.index t = ![t.val / 4, 0, t.val % 4, 0] ∧ win0_4.index t = ![t.val / 4, t.val % 4 - 2, 0]
    ∧ t.val / 4 < 4 :=
  (by decide +kernel : ∀ t : Fin grid0.N, _)

theorem lt_N (t : Fin cfg0.N) : t.val < 16 := t.isLt

/-- The batch of grid point `t`, the row of the array that is row `r` of its block, and the row of a subsequence. -/
abbrev bat (t : Fin cfg0.N) : Fin 4 := ⟨t.val / 4, by have := lt_N t; omega⟩
abbrev T (t : Fin cfg0.N) (r : Fin 1024) : Fin 4096 := ⟨1024 * (t.val % 4) + r.val, by omega⟩
abbrev sub (t : Fin cfg0.N) (r : Fin 64) : Fin 256 := ⟨64 * (t.val % 4) + r.val, by omega⟩

variable (m : (ℓ : Loc nD τ sig) → Buf (Elt Ideal) ℓ) (c : Dev nD)

abbrev A0 : FVec Ideal S4x4096x1024 .f32 := m ((c : Thread nD τ).loc main_arg0)
abbrev A1 : FVec Ideal S4x4x1024 .f32 := m ((c : Thread nD τ).loc main_arg1)
abbrev A2 : FVec Ideal S1x1024x9216 .f32 := m ((c : Thread nD τ).loc main_arg2)

section Blocks

variable (t : Fin cfg0.N)

theorem x_blk (r : Fin 1024) (d : Fin 1024) : iblk m c 0 t (ix3 0 r d) = A0 m c (ix3 (bat t) (T t r) d) := by
  blk_point [iblk, V, idx t]

theorem g_blk (d : Fin 1024) : iblk m c 1 t (ix2 0 d) = A1 m c (ix3 1 0 d) := by
  blk_point [iblk, V, idx t]

theorem w_blk (k : Fin 1024) (n : Fin 3072) : iblk m c 2 t (ix2 k n) = A2 m c (ix3 0 k ⟨6144 + n.val, by omega⟩) := by
  blk_point [iblk, V, idx t]

end Blocks

/-- The two results, as the reference has them. -/
abbrev out : FVec Ideal S4x16x256x3072 .bf16 := qkv16Arr (A0 m c) (A1 m c) (A2 m c)
abbrev new : FVec Ideal S4x2048x2048 .f32 := new16Arr (A0 m c) (A1 m c) (A2 m c)

/-- The second result's window writes its array back only after the last two grid columns. -/
theorem flush4 : ∀ t : Fin cfg0.N, (cfg0.win 4).flush t = true → 2 ≤ t.val % 4 :=
  (by decide +kernel : ∀ t : Fin grid0.N, _)

/-- A load of 1024 columns of the staged matrix. -/
theorem w_ld (t : Fin cfg0.N) (o p : ℕ) (hp : p = 6144 + o) (ho : o + 1024 ≤ 3072) (inb) (k d : Fin 1024) :
    View.ld (iblk m c 2 t) (Rect.unit (s := S1024x3072) ![0, o] ![1024, 1024] inb) (ix2 k d)
      = A2 m c (ix3 0 k ⟨p + d.val, by omega⟩) := by
  subst hp
  pointwise [w_blk m c t]
  exact congrArg (fun n => A2 m c (ix3 0 k n)) (Fin.ext (by show 6144 + (o + d.val) = 6144 + o + d.val; omega))

/-- A third of the first result's block: row `a + 4 (c + 4 r)` of the block stands at row `r` of subsequence `a + 4 c`. -/
theorem out_at (t : Fin cfg0.N) (a c' : ℕ) (ha : a < 4) (hc : c' < 4) (r : Fin 64) (o : ℕ) (ho : o + 1024 ≤ 3072) (d : Fin 1024) :
    out m c (ix4 (bat t) ⟨a + 4 * c', by omega⟩ (sub t r) ⟨o + d.val, by omega⟩)
      = if o + d.val < 1024 then
          col (A0 m c) (A1 m c) (A2 m c) (bat t) (T t ⟨a + 4 * (c' + 4 * r.val), by omega⟩) ⟨6144 + o + d.val, by omega⟩ * scale
        else col (A0 m c) (A1 m c) (A2 m c) (bat t) (T t ⟨a + 4 * (c' + 4 * r.val), by omega⟩) ⟨6144 + o + d.val, by omega⟩ := by
  have step : ∀ (p : ℕ) (h : p < 9216) (s : ℕ) (hs : s < 4096), p = 6144 + o + d.val →
      s = 1024 * (t.val % 4) + (a + 4 * (c' + 4 * r.val)) → col (A0 m c) (A1 m c) (A2 m c) (bat t) ⟨s, hs⟩ ⟨p, h⟩
        = col (A0 m c) (A1 m c) (A2 m c) (bat t) (T t ⟨a + 4 * (c' + 4 * r.val), by omega⟩) ⟨6144 + o + d.val, by omega⟩ := by
    intro p h s hs e e'; subst e; subst e'; rfl
  show (if o + d.val < 1024 then
      col (A0 m c) (A1 m c) (A2 m c) (bat t) ⟨16 * (64 * (t.val % 4) + r.val) + (a + 4 * c'), _⟩ ⟨6144 + (o + d.val), _⟩ * scale
    else col (A0 m c) (A1 m c) (A2 m c) (bat t) ⟨16 * (64 * (t.val % 4) + r.val) + (a + 4 * c'), _⟩ ⟨6144 + (o + d.val), _⟩) = _
  rw [step (6144 + (o + d.val)) (by omega) (16 * (64 * (t.val % 4) + r.val) + (a + 4 * c')) (by omega) (by omega) (by omega)]

section Thirds

theorem part_inb (o : ℕ) (ho : o + 1024 ≤ 3072) :
    ∀ a, (![0, o] : Fin 2 → ℕ) a + (![1024, 1024] : Fin 2 → ℕ) a ≤ S1024x3072.size a := by
  intro a
  fin_cases a
  · show 0 + 1024 ≤ 1024; omega
  · exact ho

variable (t : Fin cfg0.N) (rest : List (View.Piece (Elt Ideal) S8x1024x128 .f32)) (a : ℕ)
  (rest' : List (View.Piece (Elt Ideal) S8x256x128 .f32)) (c' : ℕ)
  (r : Fin 64) (d : Fin 1024) (b : Fin 16) (n : Fin 3072) (ha : a < 4) (hc : c' < 4)

/-- Columns `o` to `o + 1023` of the staged matrix. -/
abbrev part (o : ℕ) (ho : o + 1024 ≤ 3072) : FVec Ideal S1024x1024 .bf16 :=
  View.ld (iblk m c 2 t) (Rect.unit (s := S1024x3072) ![0, o] ![1024, 1024] (part_inb o ho))

/-- The queries' third of a block. -/
theorem q_at (hb : b.val = a + 4 * c') (hn : n.val = d.val) :
    gathered rest a ha rest' c' hc (k0_pay5 (iblk m c 0 t) (iblk m c 1 t) (part m c t 0 (by decide))) (ix4 0 0 r d)
      = out m c (ix4 (bat t) b (sub t r) n) := by
  have hs : a + 4 * c' < 16 := by omega
  obtain rfl : b = ⟨a + 4 * c', hs⟩ := Fin.ext hb
  have hd : 0 + d.val < 3072 := by omega
  obtain rfl : n = ⟨0 + d.val, hd⟩ := Fin.ext (hn.trans (Nat.zero_add _).symm)
  rw [out_at m c t a c' ha hc r 0 (by omega), if_pos (by omega)]
  refine (gathered_at rest a ha rest' c' hc _ r d).trans ?_
  exact pay5_at _ _ _ _ _ _ _ (x_blk m c t _) (g_blk m c t) (w_ld m c t 0 6144 rfl (by omega) _) d

/-- The keys' third, at `o = 1024`, and the values', at `o = 2048`. -/
theorem kv_at (hb : b.val = a + 4 * c') (o : ℕ) (ho : 1024 ≤ o) (ho' : o + 1024 ≤ 3072) (hn : n.val = o + d.val) :
    gathered rest a ha rest' c' hc (k0_pay198 (k0_pay4 (iblk m c 0 t) (iblk m c 1 t)) (part m c t o ho')) (ix4 0 0 r d)
      = out m c (ix4 (bat t) b (sub t r) n) := by
  have hs : a + 4 * c' < 16 := by omega
  obtain rfl : b = ⟨a + 4 * c', hs⟩ := Fin.ext hb
  have hd : o + d.val < 3072 := by omega
  obtain rfl : n = ⟨o + d.val, hd⟩ := Fin.ext hn
  rw [out_at m c t a c' ha hc r o ho', if_neg (by omega)]
  refine (gathered_at rest a ha rest' c' hc _ r d).trans ?_
  exact pay198_at _ _ _ _ _ _ _ (x_blk m c t _) (g_blk m c t) (w_ld m c t o (6144 + o) rfl ho' _) d

end Thirds

set_option maxHeartbeats 8000000 in
/-- The first result's block: sixteen subsequences, three thirds each. -/
theorem out_blk (t : Fin cfg0.N) (a : Fin 16) (r : Fin 64) (n : Fin 3072) :
    (outsAt0 m c t.val t.isLt).1 (ix4 0 a r n) = out m c (ix4 (bat t) a (sub t r) n) := by
  by_cases h : 2 ≤ t.val % 4
  on_goal 1 => rw [outsAt0_B m c t h h]
  on_goal 2 => rw [outsAt0_A m c t h h]
  all_goals
    frame_out
    canon_tiles x e
    all_goals
      obtain ⟨r', d, rfl⟩ : ∃ (r' : Fin 64) (d : Fin 1024), x = ix4 0 0 r' d :=
        ⟨x 2, x 3, by funext a; fin_cases a <;> first | exact Subsingleton.elim (α := Fin 1) _ _ | rfl⟩
      obtain rfl : r = r' := Fin.ext e2
      first
        | (have e : n.val = 2048 + d.val := e3
           exact kv_at m c t _ _ _ _ r d a n (by decide) (by decide) (by exact e1) 2048 (by decide) (by decide) e)
        | (have e : n.val = 1024 + d.val := e3
           exact kv_at m c t _ _ _ _ r d a n (by decide) (by decide) (by exact e1) 1024 (by decide) (by decide) e)
        | (have e : n.val = d.val := e3
           exact q_at m c t _ _ _ _ r d a n (by decide) (by decide) (by exact e1) e)

/-- A half of the second result's block: the rows of the keys, at `o = 1024`, or of the values. -/
theorem tail_at (t : Fin cfg0.N) (h : 2 ≤ t.val % 4) (o : ℕ) (ho : 1024 ≤ o) (ho' : o + 1024 ≤ 3072) (r d : Fin 1024)
    (n : Fin 2048) (hn : n.val = o - 1024 + d.val) :
    k0_pay199 (F := Ideal) (k0_pay4 (iblk m c 0 t) (iblk m c 1 t)) (part m c t o ho') (ix3 0 r d)
      = new m c (ix3 (bat t) ⟨1024 * (t.val % 4 - 2) + r.val, by omega⟩ n) := by
  refine (pay199_at _ _ _ _ _ _ r (x_blk m c t _) (g_blk m c t) (w_ld m c t o (6144 + o) rfl ho' _) d).trans ?_
  have step : ∀ (p : ℕ) (hp : p < 9216) (s : ℕ) (hs : s < 4096), p = 6144 + o + d.val → s = 1024 * (t.val % 4) + r.val →
      col (A0 m c) (A1 m c) (A2 m c) (bat t) (T t r) ⟨6144 + o + d.val, by omega⟩
        = col (A0 m c) (A1 m c) (A2 m c) (bat t) ⟨s, hs⟩ ⟨p, hp⟩ := by
    intro p hp s hs e e'; subst e; subst e'; rfl
  exact step (7168 + n.val) (by omega) (2048 + (1024 * (t.val % 4 - 2) + r.val)) (by omega) (by omega) (by omega)

theorem new_blk (t : Fin cfg0.N) (h : 2 ≤ t.val % 4) (r : Fin 1024) (n : Fin 2048) :
    (outsAt0 m c t.val t.isLt).2 (ix3 0 r n) = new m c (ix3 (bat t) ⟨1024 * (t.val % 4 - 2) + r.val, by omega⟩ n) := by
  rw [outsAt0_B m c t h h]
  frame_out
  canon_tiles x e
  all_goals
    obtain ⟨r', d, rfl⟩ : ∃ (r' : Fin 1024) (d : Fin 1024), x = ix3 0 r' d :=
      ⟨x 1, x 2, by funext a; fin_cases a <;> first | exact Subsingleton.elim (α := Fin 1) _ _ | rfl⟩
    obtain rfl : r = r' := Fin.ext e1
    first
      | (have e : n.val = 1024 + d.val := e2
         exact tail_at m c t h 2048 (by decide) (by decide) r d n e)
      | (have e : n.val = d.val := e2
         exact tail_at m c t h 1024 (by decide) (by decide) r d n (e.trans (Nat.zero_add _).symm))

theorem final3 : (dats m 0 c).arrAt 3 cfg0.N = out m c := by
  refine (dats m 0 c).arrAt_eq_of_covers 3 _ (by decide +kernel) fun t hf y => ?_
  blk_simp
  rw [after0_3]
  obtain ⟨a, r, n, rfl⟩ : ∃ (a : Fin 16) (r : Fin 64) (n : Fin 3072), y = ix4 0 a r n :=
    ⟨y 1, y 2, y 3, by funext a; fin_cases a <;> first | exact Subsingleton.elim (α := Fin 1) _ _ | rfl⟩
  have e : ∀ G : FVec Ideal S4x16x256x3072 .bf16,
      G (((View.whole main_v5_0).slice (win0_3.rect t)).emb (ix4 0 a r n)) = G (ix4 (bat t) a (sub t r) n) := by
    intro G
    blk_point [idx t]
  exact (out_blk m c t a r n).trans (e (out m c)).symm

theorem final4 : (dats m 0 c).arrAt 4 cfg0.N = new m c := by
  refine (dats m 0 c).arrAt_eq_of_covers 4 _ (by decide +kernel) fun t hf y => ?_
  blk_simp
  rw [after0_4]
  obtain ⟨r, n, rfl⟩ : ∃ (r : Fin 1024) (n : Fin 2048), y = ix3 0 r n :=
    ⟨y 1, y 2, by funext a; fin_cases a <;> first | exact Subsingleton.elim (α := Fin 1) _ _ | rfl⟩
  have e : ∀ G : FVec Ideal S4x2048x2048 .f32,
      G (((View.whole main_v5_1).slice (win0_4.rect t)).emb (ix3 0 r n)) = G (ix3 (bat t) ⟨1024 * (t.val % 4 - 2) + r.val, by omega⟩ n) := by
    intro G
    blk_point [idx t]
  exact (new_blk m c t (flush4 t hf) r n).trans (e (new m c)).symm

end Cert.Qkv16Ideal.Final

end
-- ==== Proof.Qkv16Claim.lean ====
module

public import proofs.«01_k».proof.Defs
public import proofs.«01_k».proof.Proof.Qkv16Final
public import proofs.«01_k».proof.Proof.Gen.Qkv16RefIdeal.Run
public import proofs.«01_k».proof.Proof.Gen.Qkv16RefIdeal.Read
public import Idealize.ShloMosaic.Lib.Claim

@[expose] public section

set_option maxRecDepth 16384

noncomputable section

/-! # The query, key and value call for dilation 16 computes what its reference computes -/

namespace Cert.Proof

open Idealize.ShloMosaic Idealize.SL.Sem

set_option maxHeartbeats 400000 in
theorem qkv16_algebraic [Cert.Qkv16Ideal.Facts] [Cert.Qkv16RefIdeal.Facts] : Cert.algebraic_Qkv16Ideal_Qkv16RefIdeal := by
  pair_intro
  · run_from Cert.Qkv16Ideal.Value.run_blocks m g
  · run_from Cert.Qkv16RefIdeal.Value.run m' g'
    · obtain ⟨h0, h1, h2⟩ := hagree c
      refine Eq.trans (Cert.Qkv16RefIdeal.Read.val_main_v32_eq m' c) ?_
      rw [h0, h1, h2]
      exact (Cert.Qkv16RefIdeal.Rows.qkv16_eq _ _ _).trans (Cert.Qkv16Ideal.Final.final3 m c).symm
    · obtain ⟨-, -, h2⟩ := hagree c
      rw [h2]
      refine Eq.trans (Cert.Qkv16RefIdeal.Read.val_main_v28_eq (F := Ideal) (m (c.tc.loc Cert.Qkv16Ideal.main_arg0)) (m (c.tc.loc Cert.Qkv16Ideal.main_arg1)) (m (c.tc.loc Cert.Qkv16Ideal.main_arg2))) ?_
      exact (Cert.Qkv16RefIdeal.Rows.new16_eq _ _ _).trans (Cert.Qkv16Ideal.Final.final4 m c).symm

theorem qkv16_ref_frame [Cert.Qkv16RefIdeal.Facts] : Cert.quiescent_Qkv16RefIdeal := fun m g _ =>
  (θ_run _ _ _).mono (fun _ h => ⟨fun c => (h c).2.2, sem_eq_zero_of_no_sems rfl _⟩) (Cert.Qkv16RefIdeal.Value.run m g)

end Cert.Proof

end
-- ==== Proof.lean ====
module

public import proofs.«01_k».proof.Defs
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.PoolClaim
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.FfnClaim
public import proofs.«01_k».proof.Proof.Gen.Wo
public import proofs.«01_k».proof.Proof.Gen.Wo.Skeleton
public import proofs.«01_k».proof.Proof.Gen.Wo.Launch
public import proofs.«01_k».proof.Proof.Gen.Wo.Points
public import proofs.«01_k».proof.Proof.Gen.Wo.Frame
public import proofs.«01_k».proof.Proof.Gen.WoIdeal
public import proofs.«01_k».proof.Proof.Gen.WoIdeal.Skeleton
public import proofs.«01_k».proof.Proof.Gen.WoIdeal.Launch
public import proofs.«01_k».proof.Proof.Gen.WoIdeal.Points
public import proofs.«01_k».proof.Proof.Gen.WoIdeal.Frame
public import proofs.«01_k».proof.Proof.Gen.WoIdeal.Value
public import proofs.«01_k».proof.Proof.Gen.WoRefIdeal
public import proofs.«01_k».proof.Proof.Gen.WoRefIdeal.Run
public import proofs.«01_k».proof.Proof.Gen.WoRefIdeal.Read
public import proofs.«01_k».proof.Proof.WoClaim
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.QkvClaim
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.ConvClaim
public import proofs.«01_k».proof.Proof.Gen.Qkv4
public import proofs.«01_k».proof.Proof.Gen.Qkv4.Skeleton
public import proofs.«01_k».proof.Proof.Gen.Qkv4.Launch
public import proofs.«01_k».proof.Proof.Gen.Qkv4.Points
public import proofs.«01_k».proof.Proof.Gen.Qkv4.Frame
public import proofs.«01_k».proof.Proof.Gen.Qkv4Ideal
public import proofs.«01_k».proof.Proof.Gen.Qkv4Ideal.Skeleton
public import proofs.«01_k».proof.Proof.Gen.Qkv4Ideal.Launch
public import proofs.«01_k».proof.Proof.Gen.Qkv4Ideal.Points
public import proofs.«01_k».proof.Proof.Gen.Qkv4Ideal.Frame
public import proofs.«01_k».proof.Proof.Gen.Qkv4Ideal.Value
public import proofs.«01_k».proof.Proof.Gen.Qkv4RefIdeal
public import proofs.«01_k».proof.Proof.Gen.Qkv4RefIdeal.Run
public import proofs.«01_k».proof.Proof.Gen.Qkv4RefIdeal.Read
public import proofs.«01_k».proof.Proof.Qkv4Claim
public import proofs.«01_k».proof.Proof.Gen.Qkv16
public import proofs.«01_k».proof.Proof.Gen.Qkv16.Skeleton
public import proofs.«01_k».proof.Proof.Gen.Qkv16.Launch
public import proofs.«01_k».proof.Proof.Gen.Qkv16.Points
public import proofs.«01_k».proof.Proof.Gen.Qkv16.Frame
public import proofs.«01_k».proof.Proof.Gen.Qkv16Ideal
public import proofs.«01_k».proof.Proof.Gen.Qkv16Ideal.Skeleton
public import proofs.«01_k».proof.Proof.Gen.Qkv16Ideal.Launch
public import proofs.«01_k».proof.Proof.Gen.Qkv16Ideal.Points
public import proofs.«01_k».proof.Proof.Gen.Qkv16Ideal.Frame
public import proofs.«01_k».proof.Proof.Gen.Qkv16Ideal.Value
public import proofs.«01_k».proof.Proof.Gen.Qkv16RefIdeal
public import proofs.«01_k».proof.Proof.Gen.Qkv16RefIdeal.Run
public import proofs.«01_k».proof.Proof.Gen.Qkv16RefIdeal.Read
public import proofs.«01_k».proof.Proof.Qkv16Claim
public import Idealize.ShloMosaic.Adequacy
public import Idealize.ShloMosaic.Init

@[expose] public section

noncomputable section

/-! # The claims, put together -/

namespace Cert.Proof

open Idealize.ShloMosaic Idealize.SL.Sem

theorem claim : Cert.Claim := ⟨
  Cert.Pool.Gen.facts, Cert.PoolIdeal.Gen.facts, Cert.PoolRefIdeal.Gen.facts,
  Cert.Ffn.Gen.facts, Cert.FfnIdeal.Gen.facts, Cert.FfnRefIdeal.Gen.facts,
  Cert.Wo.Gen.facts, Cert.WoIdeal.Gen.facts, Cert.WoRefIdeal.Gen.facts,
  Cert.Qkv.Gen.facts, Cert.QkvIdeal.Gen.facts, Cert.QkvRefIdeal.Gen.facts,
  Cert.Conv.Gen.facts, Cert.ConvIdeal.Gen.facts, Cert.ConvRefIdeal.Gen.facts,
  Cert.Qkv4.Gen.facts, Cert.Qkv4Ideal.Gen.facts, Cert.Qkv4RefIdeal.Gen.facts,
  Cert.Qkv16.Gen.facts, Cert.Qkv16Ideal.Gen.facts, Cert.Qkv16RefIdeal.Gen.facts,
  fun m ρ _ => Cert.Pool.Gen.frame m ρ, fun m ρ _ => Cert.PoolIdeal.Gen.frame m ρ, pool_ref_frame,
  fun m ρ _ => Cert.Ffn.Gen.frame m ρ, fun m ρ _ => Cert.FfnIdeal.Gen.frame m ρ, ffn_ref_frame,
  fun m ρ _ => Cert.Wo.Gen.frame m ρ, fun m ρ _ => Cert.WoIdeal.Gen.frame m ρ, wo_ref_frame,
  fun m ρ _ => Cert.Qkv.Gen.frame m ρ, fun m ρ _ => Cert.QkvIdeal.Gen.frame m ρ, qkv_ref_frame,
  fun m ρ _ => Cert.Conv.Gen.frame m ρ, fun m ρ _ => Cert.ConvIdeal.Gen.frame m ρ, conv_ref_frame,
  fun m ρ _ => Cert.Qkv4.Gen.frame m ρ, fun m ρ _ => Cert.Qkv4Ideal.Gen.frame m ρ, qkv4_ref_frame,
  fun m ρ _ => Cert.Qkv16.Gen.frame m ρ, fun m ρ _ => Cert.Qkv16Ideal.Gen.frame m ρ, qkv16_ref_frame,
  trivial, pool_algebraic,
  trivial, ffn_algebraic,
  trivial, wo_algebraic,
  trivial, qkv_algebraic,
  trivial, conv_algebraic,
  trivial, qkv4_algebraic,
  trivial, qkv16_algebraic⟩

end Cert.Proof

end
